-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_route_KernelIdeal [hPre_valid_route_KernelIdeal : Cert.Pre_valid_route_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_valid_route_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_route_ReferenceIdeal [hPre_valid_route_ReferenceIdeal : Cert.Pre_valid_route_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_route_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid_route_KernelIdeal [hKernelIdeal : Cert.KernelIdeal.Facts] [hPre_valid_route_KernelIdeal : Cert.Pre_valid_route_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_route_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid_route_ReferenceIdeal [hReferenceIdeal : Cert.ReferenceIdeal.Facts] [hPre_valid_route_ReferenceIdeal : Cert.Pre_valid_route_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_route_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid_route_KernelIdeal [hKernelIdeal : Cert.KernelIdeal.Facts] [hReferenceIdeal : Cert.ReferenceIdeal.Facts] [hPre_valid_route_KernelIdeal : Cert.Pre_valid_route_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_route_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid_route_KernelIdeal : Cert.Pre_valid_route_KernelIdeal.Facts) (hPre_valid_route_ReferenceIdeal : Cert.Pre_valid_route_ReferenceIdeal.Facts),
    quiescent_Kernel (hKernel := hKernel)
    ∧ quiescent_KernelIdeal (hKernelIdeal := hKernelIdeal)
    ∧ quiescent_KernelIdeal_pre_valid_route_KernelIdeal (hKernelIdeal := hKernelIdeal) (hPre_valid_route_KernelIdeal := hPre_valid_route_KernelIdeal)
    ∧ quiescent_ReferenceIdeal (hReferenceIdeal := hReferenceIdeal)
    ∧ quiescent_ReferenceIdeal_pre_valid_route_ReferenceIdeal (hReferenceIdeal := hReferenceIdeal) (hPre_valid_route_ReferenceIdeal := hPre_valid_route_ReferenceIdeal)
    ∧ preserves_Kernel_KernelIdeal
    ∧ algebraic_KernelIdeal_ReferenceIdeal_pre_valid_route_KernelIdeal (hKernelIdeal := hKernelIdeal) (hReferenceIdeal := hReferenceIdeal) (hPre_valid_route_KernelIdeal := hPre_valid_route_KernelIdeal)
-- ==== Pre_valid_route_KernelIdeal.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x256 .f32) (main_arg1 : FVec F S256x64 .f32) (main_arg2 : IVec S1024x1 32) (main_arg3 : FVec F S4x256x512 .f32) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Pre_valid_route_ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x256 .f32) (main_arg1 : FVec F S256x64 .f32) (main_arg2 : IVec S1024x1 32) (main_arg3 : FVec F S64x256x512 .f32) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Kernel.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S1024x512 : Shape := ⟨2, ![1024, 512]⟩
abbrev S768x512 : Shape := ⟨2, ![768, 512]⟩
abbrev S16 : Shape := ⟨1, ![16]⟩
abbrev S_ : Shape := ⟨0, ![]⟩
abbrev S1024x64 : Shape := ⟨2, ![1024, 64]⟩
abbrev S1024x1024 : Shape := ⟨2, ![1024, 1024]⟩
abbrev S1024 : Shape := ⟨1, ![1024]⟩
abbrev S1024x48 : Shape := ⟨2, ![1024, 48]⟩
abbrev S48x256 : Shape := ⟨2, ![48, 256]⟩
abbrev S12x256 : Shape := ⟨2, ![12, 256]⟩
abbrev S1x256x512 : Shape := ⟨3, ![1, 256, 512]⟩
abbrev S256x512 : Shape := ⟨2, ![256, 512]⟩
abbrev S12x512 : Shape := ⟨2, ![12, 512]⟩
abbrev S1 : Shape := ⟨1, ![1]⟩
abbrev S48x512 : Shape := ⟨2, ![48, 512]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x1, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S1024x1, .i32⟩
  | .local _ .vmem, ⟨2, _⟩ => ⟨S4x256x512, .f32⟩
  | .local _ .vmem, ⟨3, _⟩ => ⟨S1024x512, .f32⟩
  | .local _ .vmem, ⟨4, _⟩ => ⟨S768x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_99 : BitVec 32 := 1#32
  let v172 : BitVec 32 := Scalar.addi v2 c1_i32_99
  let c16_i32_100 : BitVec 32 := 16#32
  let v173 : BitVec 32 := Scalar.remsi v172 c16_i32_100
  let c1_i32_103 : BitVec 32 := 1#32
  let v174 : BitVec 32 := Scalar.muli v173 c1_i32_103
  let v175 : BitVec 32 := Scalar.addi c0_i32_104 v174
  v175.toNat
def k0_dev17 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_108 : BitVec 32 := 2#32
  let v182 : BitVec 32 := Scalar.addi v2 c2_i32_108
  let c16_i32_109 : BitVec 32 := 16#32
  let v183 : BitVec 32 := Scalar.remsi v182 c16_i32_109
  let c1_i32_112 : BitVec 32 := 1#32
  let v184 : BitVec 32 := Scalar.muli v183 c1_i32_112
  let v185 : BitVec 32 := Scalar.addi c0_i32_113 v184
  v185.toNat
def k0_dev18 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_117 : BitVec 32 := 3#32
  let v192 : BitVec 32 := Scalar.addi v2 c3_i32_117
  let c16_i32_118 : BitVec 32 := 16#32
  let v193 : BitVec 32 := Scalar.remsi v192 c16_i32_118
  let c1_i32_121 : BitVec 32 := 1#32
  let v194 : BitVec 32 := Scalar.muli v193 c1_i32_121
  let v195 : BitVec 32 := Scalar.addi c0_i32_122 v194
  v195.toNat
def k0_dev19 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v202 : BitVec 32 := Scalar.addi v2 c4_i32_126
  let c16_i32_127 : BitVec 32 := 16#32
  let v203 : BitVec 32 := Scalar.remsi v202 c16_i32_127
  let c1_i32_130 : BitVec 32 := 1#32
  let v204 : BitVec 32 := Scalar.muli v203 c1_i32_130
  let v205 : BitVec 32 := Scalar.addi c0_i32_131 v204
  v205.toNat
def k0_dev20 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_135 : BitVec 32 := 5#32
  let v212 : BitVec 32 := Scalar.addi v2 c5_i32_135
  let c16_i32_136 : BitVec 32 := 16#32
  let v213 : BitVec 32 := Scalar.remsi v212 c16_i32_136
  let c1_i32_139 : BitVec 32 := 1#32
  let v214 : BitVec 32 := Scalar.muli v213 c1_i32_139
  let v215 : BitVec 32 := Scalar.addi c0_i32_140 v214
  v215.toNat
def k0_dev21 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_144 : BitVec 32 := 6#32
  let v222 : BitVec 32 := Scalar.addi v2 c6_i32_144
  let c16_i32_145 : BitVec 32 := 16#32
  let v223 : BitVec 32 := Scalar.remsi v222 c16_i32_145
  let c1_i32_148 : BitVec 32 := 1#32
  let v224 : BitVec 32 := Scalar.muli v223 c1_i32_148
  let v225 : BitVec 32 := Scalar.addi c0_i32_149 v224
  v225.toNat
def k0_dev22 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_153 : BitVec 32 := 7#32
  let v232 : BitVec 32 := Scalar.addi v2 c7_i32_153
  let c16_i32_154 : BitVec 32 := 16#32
  let v233 : BitVec 32 := Scalar.remsi v232 c16_i32_154
  let c1_i32_157 : BitVec 32 := 1#32
  let v234 : BitVec 32 := Scalar.muli v233 c1_i32_157
  let v235 : BitVec 32 := Scalar.addi c0_i32_158 v234
  v235.toNat
def k0_dev23 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_162 : BitVec 32 := 8#32
  let v242 : BitVec 32 := Scalar.addi v2 c8_i32_162
  let c16_i32_163 : BitVec 32 := 16#32
  let v243 : BitVec 32 := Scalar.remsi v242 c16_i32_163
  let c1_i32_166 : BitVec 32 := 1#32
  let v244 : BitVec 32 := Scalar.muli v243 c1_i32_166
  let v245 : BitVec 32 := Scalar.addi c0_i32_167 v244
  v245.toNat
def k0_dev24 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_171 : BitVec 32 := 9#32
  let v252 : BitVec 32 := Scalar.addi v2 c9_i32_171
  let c16_i32_172 : BitVec 32 := 16#32
  let v253 : BitVec 32 := Scalar.remsi v252 c16_i32_172
  let c1_i32_175 : BitVec 32 := 1#32
  let v254 : BitVec 32 := Scalar.muli v253 c1_i32_175
  let v255 : BitVec 32 := Scalar.addi c0_i32_176 v254
  v255.toNat
def k0_dev25 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_180 : BitVec 32 := 10#32
  let v262 : BitVec 32 := Scalar.addi v2 c10_i32_180
  let c16_i32_181 : BitVec 32 := 16#32
  let v263 : BitVec 32 := Scalar.remsi v262 c16_i32_181
  let c1_i32_184 : BitVec 32 := 1#32
  let v264 : BitVec 32 := Scalar.muli v263 c1_i32_184
  let v265 : BitVec 32 := Scalar.addi c0_i32_185 v264
  v265.toNat
def k0_dev26 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_189 : BitVec 32 := 11#32
  let v272 : BitVec 32 := Scalar.addi v2 c11_i32_189
  let c16_i32_190 : BitVec 32 := 16#32
  let v273 : BitVec 32 := Scalar.remsi v272 c16_i32_190
  let c1_i32_193 : BitVec 32 := 1#32
  let v274 : BitVec 32 := Scalar.muli v273 c1_i32_193
  let v275 : BitVec 32 := Scalar.addi c0_i32_194 v274
  v275.toNat
def k0_dev27 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_198 : BitVec 32 := 12#32
  let v282 : BitVec 32 := Scalar.addi v2 c12_i32_198
  let c16_i32_199 : BitVec 32 := 16#32
  let v283 : BitVec 32 := Scalar.remsi v282 c16_i32_199
  let c1_i32_202 : BitVec 32 := 1#32
  let v284 : BitVec 32 := Scalar.muli v283 c1_i32_202
  let v285 : BitVec 32 := Scalar.addi c0_i32_203 v284
  v285.toNat
def k0_dev28 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_207 : BitVec 32 := 13#32
  let v292 : BitVec 32 := Scalar.addi v2 c13_i32_207
  let c16_i32_208 : BitVec 32 := 16#32
  let v293 : BitVec 32 := Scalar.remsi v292 c16_i32_208
  let c1_i32_211 : BitVec 32 := 1#32
  let v294 : BitVec 32 := Scalar.muli v293 c1_i32_211
  let v295 : BitVec 32 := Scalar.addi c0_i32_212 v294
  v295.toNat
def k0_dev29 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_216 : BitVec 32 := 14#32
  let v302 : BitVec 32 := Scalar.addi v2 c14_i32_216
  let c16_i32_217 : BitVec 32 := 16#32
  let v303 : BitVec 32 := Scalar.remsi v302 c16_i32_217
  let c1_i32_220 : BitVec 32 := 1#32
  let v304 : BitVec 32 := Scalar.muli v303 c1_i32_220
  let v305 : BitVec 32 := Scalar.addi c0_i32_221 v304
  v305.toNat
def k0_dev30 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_225 : BitVec 32 := 15#32
  let v312 : BitVec 32 := Scalar.addi v2 c15_i32_225
  let c16_i32_226 : BitVec 32 := 16#32
  let v313 : BitVec 32 := Scalar.remsi v312 c16_i32_226
  let c1_i32_229 : BitVec 32 := 1#32
  let v314 : BitVec 32 := Scalar.muli v313 c1_i32_229
  let v315 : BitVec 32 := Scalar.addi c0_i32_230 v314
  v315.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S1024 : Shape := ⟨1, ![1024]⟩
abbrev S64 : Shape := ⟨1, ![64]⟩
abbrev S1x64 : Shape := ⟨2, ![1, 64]⟩
abbrev S1024x64 : Shape := ⟨2, ![1024, 64]⟩
abbrev S_ : Shape := ⟨0, ![]⟩
abbrev S1024x256x512 : Shape := ⟨3, ![1024, 256, 512]⟩
abbrev S1024x512 : Shape := ⟨2, ![1024, 512]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x1, .i32⟩
  | .hbm, ⟨3, _⟩ => ⟨S64x256x512, .f32⟩
  | .hbm, ⟨4, _⟩ => ⟨S1024, .i32⟩
  | .hbm, ⟨5, _⟩ => ⟨S1024x1, .i32⟩
  | .hbm, ⟨6, _⟩ => ⟨S64, .i32⟩
  | .hbm, ⟨7, _⟩ => ⟨S1x64, .i32⟩
  | .hbm, ⟨8, _⟩ => ⟨S1024x64, .i32⟩
  | .hbm, ⟨9, _⟩ => ⟨S1024x64, .i32⟩
  | .hbm, ⟨10, _⟩ => ⟨S1024x64, .i1⟩
  | .hbm, ⟨11, _⟩ => ⟨S1024x64, .i32⟩
  | .hbm, ⟨12, _⟩ => ⟨S_, .i32⟩
  | .hbm, ⟨13, _⟩ => ⟨S_, .i32⟩
  | .hbm, ⟨14, _⟩ => ⟨S1024x64, .i32⟩
  | .hbm, ⟨15, _⟩ => ⟨S1024x64, .i32⟩
  | .hbm, ⟨16, _⟩ => ⟨S_, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x256x512, .f32⟩
  | .hbm, ⟨27, _⟩ => ⟨S1024x512, .f32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S1024x1, .i1⟩
  | .hbm, ⟨32, _⟩ => ⟨S_, .f32⟩
  | .hbm, ⟨33, _⟩ => ⟨S_, .f32⟩
  | .hbm, ⟨34, _⟩ => ⟨S1024x512, .i1⟩
  | .hbm, ⟨35, _⟩ => ⟨S1024x512, .f32⟩
  | .hbm, ⟨36, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Proof.Proto.lean ====
/-
# The exchange protocol

Sixteen devices each compute a block of 48 rows and send it to all the others. Every device first signals the fifteen
other devices' barrier semaphores and waits for fifteen units on its own; then it copies its block, rows 0 to 47 of its
communication buffer, into rows `48 d` to `48 d + 47` of device `c + d`'s buffer, for `d` from 1 to 15.

This module fixes the memory views, the semaphore cells, what the buffers hold, and the schedule: for each cell, which
device pays which unit and what ownership the payment hands over.

* barrier cell of `q`, duty `d` (one unit): paid by device `q - d`; hands over rows `48 e ..` of the payer's buffer, where
  `e = -d` is the offset at which `q` sends to the payer;
* receive cell `d` of `q` (the block's credit): paid by the copy of device `q - d`; hands over rows `48 d ..` of `q`'s buffer
  holding that device's block;
* send cell `d` of `c` (the block's credit): paid by `c`'s own copy; gives back the share of rows 0 to 47 that it read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)
open Idealize.ShloMosaic.Pipeline (Dat Cfg Window BodyObligation cellOf)

variable {F : FTy → Type} [FloatOps F]

/-! ## The resource algebra: the pipeline's and the exchange's, whose duties are named by offsets -/

/-- The exchange's algebra. -/
abbrev UB : Type := URounds (GSem nD τ sig) (Fin 16)
/-- The pipeline's and the exchange's algebra together. -/
abbrev UU : Type := UR sig nD τ × UB

local notation "𝕄" => MT nD τ sig Unit (Elt F) ℕ UU ℕ

/-- The pipeline's part. -/
abbrev EP : Emb (UR sig nD τ) (MT nD τ sig Unit (Elt F) ℕ UU ℕ) := embL
/-- The exchange's part. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Views -/

/-- The staged tokens. -/
abbrev xM : Memref sig .tc .vmem S1024x256 .f32 := Memref.whole cc0_stg0_0
/-- The staged route indices. -/
abbrev iM : Memref sig .tc .vmem S1024x1 .i32 := Memref.whole cc0_stg1_0
/-- The staged weights. -/
abbrev wM : Memref sig .tc .vmem S4x256x512 .f32 := Memref.whole cc0_stg2_0
/-- The staged result. -/
abbrev oM : Memref sig .tc .vmem S1024x512 .f32 := Memref.whole cc0_stg3_0
/-- The communication buffer. -/
abbrev rM : Memref sig .tc .vmem S768x512 .bf16 := Memref.whole cc0_scratch0

/-- A band lies within the buffer. -/
theorem bandInb (d : Fin 16) : ∀ a, (![48 * d.val, 0] : Fin 2 → Nat) a + S48x512.size a ≤ S768x512.size a := by
  revert d; decide

/-- Rows `48 d` to `48 d + 47` of the communication buffer. -/
abbrev bandR (d : Fin 16) : Rect S768x512 := Rect.unit (s := S768x512) ![48 * d.val, 0] S48x512.size (bandInb d)
/-- The view of band `d`. -/
abbrev band (d : Fin 16) : Memref sig .tc .vmem S48x512 .bf16 := rM.slice (bandR d) (fun _ => rfl)

/-- The elements of band `d`. -/
def bandSet (d : Fin 16) : Finset S768x512.Idx := (bandR d).set

/-- A band's view covers the band's elements. -/
theorem band_set (d : Fin 16) : (band d).view.set = bandSet d := View.set_slice_whole _ _

/-- An element is in band `d` exactly if its row is. -/
theorem mem_bandSet {d : Fin 16} {i : S768x512.Idx} : i ∈ bandSet d ↔ 48 * d.val ≤ (i 0).val ∧ (i 0).val < 48 * d.val + 48 := by
  unfold bandSet
  rw [Rect.mem_set_unit]
  constructor
  · intro h; exact h 0
  · intro h a
    fin_cases a
    · exact h
    · exact ⟨Nat.zero_le _, by have := (i 1).isLt; simpa using this⟩

/-- Different bands are disjoint. -/
theorem bandSet_disjoint (d d' : Fin 16) (h : d ≠ d') : Disjoint (bandSet d) (bandSet d') := by
  rw [Finset.disjoint_left]
  intro i hi hi'
  rw [mem_bandSet] at hi hi'
  exact h (Fin.ext (by omega))

/-- The bands cover the buffer. -/
theorem bandSet_cover : (Finset.univ : Finset (Fin 16)).biUnion bandSet = Finset.univ := by
  ext i
  simp only [Finset.mem_biUnion, Finset.mem_univ, true_and, iff_true]
  have hi : (i 0).val < 768 := (i 0).isLt
  exact ⟨⟨(i 0).val / 48, by omega⟩, mem_bandSet.mpr ⟨by simp only; omega, by simp only; omega⟩⟩

/-! ## Cells -/

/-- The barrier's semaphore. -/
abbrev barS : Sem sig := (SemArray.scalar (sig.barrier 0 rfl) : Sems sig S_).sem
/-- A send semaphore's number is within range. -/
theorem sndLt (d : Fin 16) : 4 + d.val < 36 := by omega
/-- A receive semaphore's number is within range. -/
theorem rcvLt (d : Fin 16) : 20 + d.val < 36 := by omega
/-- Send semaphore `d`. -/
abbrev sndS (d : Fin 16) : DmaSem sig := (⟨4 + d.val, sndLt d⟩ : Fin 36)
/-- Receive semaphore `d`. -/
abbrev rcvS (d : Fin 16) : DmaSem sig := (⟨20 + d.val, rcvLt d⟩ : Fin 36)

/-- Device `c`'s barrier cell. -/
abbrev barCell (c : Dev nD) : GSem nD τ sig := ((c : Thread nD τ), .reg barS)
/-- Device `c`'s send cell `d`. -/
abbrev sndCell (c : Dev nD) (d : Fin 16) : GSem nD τ sig := ((c : Thread nD τ), .dma (sndS d))
/-- Device `c`'s receive cell `d`. -/
abbrev rcvCell (c : Dev nD) (d : Fin 16) : GSem nD τ sig := ((c : Thread nD τ), .dma (rcvS d))

/-- The units of credit of one block. -/
abbrev N : ℕ := (band 0).view.dmaCredit
/-- A block's credit is positive. -/
theorem N_pos : 0 < N := View.dmaCredit_pos _ (by decide)
/-- Every band's credit is that of band 0. -/
theorem N_band (d : Fin 16) : (band d).view.dmaCredit = N := by rfl

/-! ## Contents -/

/-- The tokens as staged on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The route indices as staged on device `c`. -/
def istg (c : Dev nD) : (cc0_stg1_0 : Ref sig .tc).ty.Contents (Elt F) :=
  (win0_1.blk (0 : Fin 1)).view.read (Elt F) ((s₀ m ρ).mem ((c : Thread nD τ).loc main_arg2))
/-- The weights as staged on device `c`. -/
def wstg (c : Dev nD) : (cc0_stg2_0 : Ref sig .tc).ty.Contents (Elt F) :=
  (win0_2.blk (0 : Fin 1)).view.read (Elt F) ((s₀ m ρ).mem ((c : Thread nD τ).loc main_arg3))

/-- An expert's weights lie within the staged ones. -/
theorem wInb (e : Fin 4) : ∀ a, (![e.val, 0, 0] : Fin 3 → Nat) a + S1x256x512.size a ≤ S4x256x512.size a := by
  revert e; decide
/-- The part of the staged weights that is expert `e`'s. -/
abbrev wR (e : Fin 4) : Rect S4x256x512 := Rect.unit (s := S4x256x512) ![e.val, 0, 0] S1x256x512.size (wInb e)

/-- The weights of expert `e` of device `c` as loaded. -/
def wld (c : Dev nD) (e : Fin 4) : Vec F S1x256x512 .f32 := wM.view.readAt (Elt F) (wR e).toLoadRect (wstg m ρ c)

/-- The device's own number as the kernel computes it. -/
def myI (c : Dev nD) : BitVec 32 := Scalar.remsi (Scalar.divsi (Dev.word c) 1#32) 16#32
/-- The rank of every token among the tokens of its expert, from 1, as a word. -/
def rankW (c : Dev nD) : IVec S1024x1 32 := k0_pay3 (k0_pay2 (F := F) (istg m ρ c))
/-- The route indices as loaded, as words. -/
def idsW (c : Dev nD) : IVec S1024x1 32 := k0_pay1 (F := F) (istg m ρ c)

/-- The twelve rows of expert `e` in device `c`'s block. -/
def blk (c : Dev nD) (e : Fin 4) : FVec F S12x512 .bf16 :=
  match e with
  | 0 => k0_pay9 (idsW m ρ c) (rankW m ρ c) (k0_pay4 (myI c)) k0_pay5 k0_pay6 k0_pay7 (xstg m ρ c) (wld m ρ c 0)
  | 1 => k0_pay10 (idsW m ρ c) (rankW m ρ c) (k0_pay4 (myI c)) k0_pay5 k0_pay6 k0_pay7 (xstg m ρ c) (wld m ρ c 1)
  | 2 => k0_pay12 (k0_pay11 (idsW m ρ c) (rankW m ρ c) (k0_pay4 (myI c)) k0_pay5 k0_pay6 k0_pay7 (xstg m ρ c) (wld m ρ c 2))
  | 3 => k0_pay13 (k0_pay8 (idsW m ρ c) (rankW m ρ c) (k0_pay4 (myI c)) k0_pay5 k0_pay6 k0_pay7 (xstg m ρ c)) (wld m ρ c 3)

/-- What device `c`'s communication buffer holds at the end: row `48 d + 12 e + r` is row `r` of expert `e` of device `c - d`. -/
def commFull (c : Dev nD) : (cc0_scratch0 : Ref sig .tc).ty.Contents (Elt F) := fun i : S768x512.Idx =>
  blk m ρ (c - (⟨(i 0).val / 48, by have : (i 0).val < 768 := (i 0).isLt; omega⟩ : Fin 16))
    ⟨(i 0).val % 48 / 12, by omega⟩ (show S12x512.Idx from fun a => match a with
      | 0 => (⟨(i 0).val % 12, Nat.mod_lt _ (by decide)⟩ : Fin 12)
      | 1 => (⟨(i 1).val, (i 1).isLt⟩ : Fin 512))

/-- Band `d` of device `c`'s communication buffer at share `q`. -/
def bandPts (c : Dev nD) (d : Fin 16) (q : PosShare TreeShare) (f : (cc0_scratch0 : Ref sig .tc).ty.Contents (Elt F)) : sProp 𝕄 :=
  (c : Thread nD τ).loc cc0_scratch0 ↦[bandSet d]{q} f

omit [FloatOps F] in
/-- A band may be put into an invariant. -/
instance bandPts_storable (c : Dev nD) (d q f) : BI.Storable (upEmb : UEmb _ 𝕄) (bandPts (F := F) c d q f) := by unfold bandPts; infer_instance

omit [FloatOps F] in
/-- Holding a band depends on the contents within the band alone. -/
theorem bandPts_congr {c : Dev nD} {d : Fin 16} {q} {f g : (cc0_scratch0 : Ref sig .tc).ty.Contents (Elt F)} (h : ∀ i ∈ bandSet d, f i = g i) :
    (bandPts (F := F) c d q f) = bandPts c d q g := pointsTo_congr h

/-- The share of the own block lent to copy `d`. -/
abbrev lent (d : Fin 16) : PosShare TreeShare := shareTok fullShare 16 d
/-- The share kept for the device's own loads. -/
abbrev kept : PosShare TreeShare := shareDrop fullShare 16

/-! ## The schedule -/

/-- A barrier unit hands over the band into which `q` will copy, of the device that pays it. -/
def barPay (q : Dev nD) (d : Fin 16) : sProp 𝕄 := iprop(∃ f, bandPts (F := F) (q - d) (-d) fullShare f)
/-- An arrival hands over the landed band. -/
def rcvPay (c : Dev nD) (d : Fin 16) : sProp 𝕄 := bandPts c d fullShare (commFull m ρ c)
/-- A departure gives back the lent share of the own block. -/
def sndPay (c : Dev nD) (d : Fin 16) : sProp 𝕄 := bandPts c 0 (lent d) (commFull m ρ c)

/-- Subtracting a negated offset adds it. -/
theorem sub_neg16 (c d : Fin 16) : c - -d = c + d := by revert c d; decide
/-- An offset negated twice is itself. -/
theorem neg_neg16 (d : Fin 16) : - -d = d := by revert d; decide
/-- Forth and back. -/
theorem add_sub16 (c d : Fin 16) : c + d - d = c := by revert c d; decide
/-- Back and forth. -/
theorem sub_add16 (c d : Fin 16) : c - d + d = c := by revert c d; decide
/-- Offsets negated. -/
def negE : Fin 16 ≃ Fin 16 := ⟨fun d => -d, fun d => -d, neg_neg16, neg_neg16⟩
/-- Devices moved by an offset. -/
def moveE (d : Fin 16) : Fin 16 ≃ Fin 16 := ⟨fun c => c + d, fun c => c - d, fun c => add_sub16 c d, fun c => sub_add16 c d⟩

/-- The offsets of the other devices. -/
abbrev offs : Finset (Fin 16) := Finset.univ.erase 0

/-- A cell's duties: fifteen at a barrier, one at a send or receive cell, none at the two of offset 0 or at staging. -/
def dutiesOf : SemLoc sig → Finset (Fin 16)
  | .reg _ => offs
  | .dma q => if q.val = 4 ∨ q.val = 20 then ∅ else {0}

/-- What each duty hands over. -/
def payOf (c : Dev nD) (d : Fin 16) : SemLoc sig → sProp 𝕄
  | .reg _ => barPay c d
  | .dma q => if h : 20 ≤ q.val then rcvPay m ρ c ⟨q.val - 20, by have : q.val < 36 := q.isLt; omega⟩
      else if h' : 4 ≤ q.val then sndPay m ρ c ⟨q.val - 4, by omega⟩ else iprop(emp)

/-- The units of a duty: one at a barrier, a block's credit otherwise. -/
def amtOf : SemLoc sig → ℕ
  | .reg _ => 1
  | .dma _ => N

/-- The schedule: all duties lie in round 0. -/
def Rd : Rounds.Schedule (GSem nD τ sig) (Fin 16) 𝕄 where
  duties g r := if r = 0 then dutiesOf g.2 else ∅
  unitless _ := False
  amount g _ _ := amtOf g.2
  payload g _ d := payOf m ρ g.1.1 d g.2
  amount_pos g _ _ _ := by
    rcases g with ⟨_, _ | _⟩
    · exact Nat.one_pos
    · exact N_pos

/-- Every payload may be put into an invariant. -/
instance Rd_payload_storable (g : GSem nD τ sig) (r : ℕ) (d : Fin 16) :
    BI.Storable (upEmb : UEmb _ 𝕄) ((Rd (F := F) m ρ).payload g r d) := by
  rcases g with ⟨t, _ | q⟩
  · show BI.Storable upEmb (barPay t.1 d)
    unfold barPay; infer_instance
  · show BI.Storable upEmb (if h : 20 ≤ q.val then rcvPay m ρ t.1 _ else if h' : 4 ≤ q.val then sndPay m ρ t.1 _ else iprop(emp))
    unfold rcvPay sndPay
    (repeat' split) <;> infer_instance

section Sched
variable (c : Dev nD) (d : Fin 16)

/-- The barrier's duties are the other devices' offsets. -/
theorem duties_bar : (Rd (F := F) m ρ).duties (barCell c) 0 = offs := rfl
/-- A send cell in use has one duty. -/
theorem duties_snd (hd : d ≠ 0) : (Rd (F := F) m ρ).duties (sndCell c d) 0 = {0} := by
  show (if 4 + d.val = 4 ∨ 4 + d.val = 20 then ∅ else {0}) = _
  exact if_neg (by have := fun h => hd (Fin.ext h); have := d.isLt; simp only [Fin.val_zero] at *; omega)
/-- A receive cell in use has one duty. -/
theorem duties_rcv (hd : d ≠ 0) : (Rd (F := F) m ρ).duties (rcvCell c d) 0 = {0} := by
  show (if 20 + d.val = 4 ∨ 20 + d.val = 20 then ∅ else {0}) = _
  exact if_neg (by have := fun h => hd (Fin.ext h); have := d.isLt; simp only [Fin.val_zero] at *; omega)
/-- After round 0 no cell has duties. -/
theorem duties_later (g : GSem nD τ sig) : ∀ r, 1 ≤ r → (Rd (F := F) m ρ).duties g r = ∅ :=
  fun r hr => if_neg (by omega)
/-- Send cell 0 has no duties. -/
theorem duties_snd0 : ∀ r, 0 ≤ r → (Rd (F := F) m ρ).duties (sndCell c 0) r = ∅ := fun r _ => by
  show (if r = 0 then (if 4 + (0 : Fin 16).val = 4 ∨ 4 + (0 : Fin 16).val = 20 then ∅ else {0}) else ∅) = _
  rw [if_pos (show 4 + (0 : Fin 16).val = 4 ∨ 4 + (0 : Fin 16).val = 20 from Or.inl rfl)]; exact ite_self _
/-- Receive cell 0 has no duties. -/
theorem duties_rcv0 : ∀ r, 0 ≤ r → (Rd (F := F) m ρ).duties (rcvCell c 0) r = ∅ := fun r _ => by
  show (if r = 0 then (if 20 + (0 : Fin 16).val = 4 ∨ 20 + (0 : Fin 16).val = 20 then ∅ else {0}) else ∅) = _
  rw [if_pos (show 20 + (0 : Fin 16).val = 4 ∨ 20 + (0 : Fin 16).val = 20 from Or.inr rfl)]; exact ite_self _

/-- A barrier duty is one unit. -/
theorem amount_bar : (Rd (F := F) m ρ).amount (barCell c) 0 d = 1 := rfl
/-- A send duty is a block's credit. -/
theorem amount_snd (e : Fin 16) : (Rd (F := F) m ρ).amount (sndCell c d) 0 e = N := rfl
/-- A receive duty is a block's credit. -/
theorem amount_rcv (e : Fin 16) : (Rd (F := F) m ρ).amount (rcvCell c d) 0 e = N := rfl

/-- The barrier's round brings fifteen units. -/
theorem expect_bar : (Rd (F := F) m ρ).expect (barCell c) 0 = 15 := by
  unfold Schedule.expect Schedule.amountOf
  rw [duties_bar, Finset.sum_congr rfl fun d _ => amount_bar m ρ c d]; decide
/-- A send cell's round brings a block's credit. -/
theorem expect_snd (hd : d ≠ 0) : (Rd (F := F) m ρ).expect (sndCell c d) 0 = N := by
  unfold Schedule.expect Schedule.amountOf; rw [duties_snd m ρ c d hd, Finset.sum_singleton, amount_snd]
/-- A receive cell's round brings a block's credit. -/
theorem expect_rcv (hd : d ≠ 0) : (Rd (F := F) m ρ).expect (rcvCell c d) 0 = N := by
  unfold Schedule.expect Schedule.amountOf; rw [duties_rcv m ρ c d hd, Finset.sum_singleton, amount_rcv]

/-- A barrier duty's payload. -/
theorem payload_bar : (Rd (F := F) m ρ).payload (barCell c) 0 d = barPay c d := rfl
/-- A send duty's payload. -/
theorem payload_snd (e : Fin 16) : (Rd (F := F) m ρ).payload (sndCell c d) 0 e = sndPay m ρ c d := by
  show (if h : 20 ≤ 4 + d.val then _ else if h' : 4 ≤ 4 + d.val then _ else _) = _
  rw [dif_neg (by omega), dif_pos (by omega)]
  congr 1; exact Fin.ext (by simp only; omega)
/-- A receive duty's payload. -/
theorem payload_rcv (e : Fin 16) : (Rd (F := F) m ρ).payload (rcvCell c d) 0 e = rcvPay m ρ c d := by
  show (if h : 20 ≤ 20 + d.val then _ else _) = _
  rw [dif_pos (by omega)]
  congr 1; exact Fin.ext (by simp only; omega)

/-- All that a send cell's round hands over. -/
theorem rest_snd (hd : d ≠ 0) : bigSep ((Rd (F := F) m ρ).duties (sndCell c d) 0 \ ∅) (fun e => (Rd (F := F) m ρ).payload (sndCell c d) 0 e) = sndPay m ρ c d := by
  rw [Finset.sdiff_empty, duties_snd m ρ c d hd, bigSep_singleton, payload_snd]
/-- All that a receive cell's round hands over. -/
theorem rest_rcv (hd : d ≠ 0) : bigSep ((Rd (F := F) m ρ).duties (rcvCell c d) 0 \ ∅) (fun e => (Rd (F := F) m ρ).payload (rcvCell c d) 0 e) = rcvPay m ρ c d := by
  rw [Finset.sdiff_empty, duties_rcv m ρ c d hd, bigSep_singleton, payload_rcv]

/-- All that the barrier round hands device `c`: for every other offset `e`, band `e` of device `c + e`. -/
theorem rest_bar : bigSep ((Rd (F := F) m ρ).duties (barCell c) 0 \ ∅) (fun e => (Rd (F := F) m ρ).payload (barCell c) 0 e)
    = bigSep offs fun e => iprop(∃ f, bandPts (F := F) (c + e) e fullShare f) := by
  rw [Finset.sdiff_empty, duties_bar,
    show offs = offs.map negE.toEmbedding from by decide, bigSep_map]
  rw [show offs.map negE.toEmbedding = offs from by decide]
  refine bigSep_congr fun e _ => ?_
  show barPay c (-e) = _
  unfold barPay
  rw [sub_neg16, neg_neg16]

end Sched

/-! ## What each device owes; levels -/

/-- The receive credits of the copies at offsets `n` and above. -/
def owedRcv (c : Dev nD) (n : ℕ) : CellTallies nD τ sig Unit :=
  ∑ d ∈ offs.filter (fun d => n ≤ d.val), tallyAt (rcvCell (c + d) d) () N
/-- The barrier signals at offsets `n` and above, beside every receive credit. -/
def owedBar (c : Dev nD) (n : ℕ) : CellTallies nD τ sig Unit :=
  ∑ d ∈ offs.filter (fun d => n ≤ d.val), tallyAt (barCell (c + d)) () 1 + owedRcv c 1
/-- What device `c` owes at launch. -/
def O₀ (c : Dev nD) : CellTallies nD τ sig Unit := owedBar c 1

/-- The offsets from `n` on are `n` and those after it. -/
theorem filter_step (n : Fin 16) (hn : n ≠ 0) :
    offs.filter (fun d => n.val ≤ d.val) = insert n (offs.filter (fun d => n.val + 1 ≤ d.val)) := by
  revert n; decide
/-- Offset `n` is not among those after it. -/
theorem notMem_step (n : Fin 16) : n ∉ offs.filter (fun d => n.val + 1 ≤ d.val) := by
  rw [Finset.mem_filter]; omega
/-- No offset is 16 or more. -/
theorem filter_end : offs.filter (fun d => 16 ≤ d.val) = ∅ := by decide
/-- Every offset of another device is at least 1. -/
theorem filter_start : offs.filter (fun d => 1 ≤ d.val) = offs := by decide

/-- Copy `n` pays its receive credit. -/
theorem owedRcv_step (c : Dev nD) (n : Fin 16) (hn : n ≠ 0) :
    owedRcv c n.val = owedRcv c (n.val + 1) + tallyAt (rcvCell (c + n) n) () N := by
  unfold owedRcv
  rw [filter_step n hn, Finset.sum_insert (notMem_step n), add_comm]
/-- After the last copy nothing is owed. -/
theorem owedRcv_end (c : Dev nD) : owedRcv c 16 = 0 := by unfold owedRcv; rw [filter_end, Finset.sum_empty]
/-- Signal `n` pays its barrier unit. -/
theorem owedBar_step (c : Dev nD) (n : Fin 16) (hn : n ≠ 0) :
    owedBar c n.val = owedBar c (n.val + 1) + tallyAt (barCell (c + n)) () 1 := by
  unfold owedBar
  rw [filter_step n hn, Finset.sum_insert (notMem_step n), add_assoc, add_comm]
/-- After the last signal the receive credits alone are owed. -/
theorem owedBar_end (c : Dev nD) : owedBar c 16 = owedRcv c 1 := by unfold owedBar; rw [filter_end, Finset.sum_empty, zero_add]

/-- The cells that have a level: the tensor cores'. -/
def L (g : GSem nD τ sig) : Finset Unit := if g.1.2 = .tc then {()} else ∅
/-- Barrier cells at 1, receive cells at 2, the others (staging and send) at 0. -/
def lv (g : GSem nD τ sig) (_ : Unit) : ℕ :=
  match g.2 with
  | .reg _ => 1
  | .dma q => if 20 ≤ q.val then 2 else 0

/-- No other thread's cell has a level. -/
theorem L_of_ne (g : GSem nD τ sig) (h : g.1.2 ≠ .tc) : L g = ∅ := if_neg h
/-- Every tensor core's cell has one. -/
theorem L_tc (c : Dev nD) (sm : SemLoc sig) : L ((c : Thread nD τ), sm) = {()} := if_pos rfl

/-- A sum of tallies is positive only at one of its cells. -/
theorem sum_tally_pos {S : Finset (Fin 16)} {cell : Fin 16 → GSem nD τ sig} {k : ℕ} {g : GSem nD τ sig} {u : Unit}
    (h : 0 < (∑ d ∈ S, tallyAt (cell d) () k : CellTallies nD τ sig Unit) g u) : ∃ d ∈ S, g = cell d := by
  rw [Finset.sum_apply, Finsupp.finset_sum_apply] at h
  obtain ⟨d, hd, hp⟩ := Finset.exists_ne_zero_of_sum_ne_zero (Nat.pos_iff_ne_zero.mp h)
  rw [tallyAt_apply] at hp
  by_cases hg : g = cell d ∧ u = ()
  · exact ⟨d, hd, hg.1⟩
  · rw [if_neg hg] at hp; exact absurd rfl hp

/-- Receive credits are owed at receive cells only. -/
theorem owedRcv_pos {c : Dev nD} {n : ℕ} {g : GSem nD τ sig} {u : Unit} (h : 0 < owedRcv c n g u) : ∃ d : Fin 16, g = rcvCell (c + d) d := by
  obtain ⟨d, -, hd⟩ := sum_tally_pos h
  exact ⟨d, hd⟩
/-- At launch, only barrier and receive cells are owed anything. -/
theorem O₀_pos {c : Dev nD} {g : GSem nD τ sig} {u : Unit} (h : 0 < O₀ c g u) :
    (∃ d : Fin 16, g = barCell (c + d)) ∨ ∃ d : Fin 16, g = rcvCell (c + d) d := by
  unfold O₀ owedBar at h
  rw [Pi.add_apply, Finsupp.add_apply] at h
  rcases Nat.add_pos_iff_pos_or_pos.mp h with h | h
  · obtain ⟨d, -, hd⟩ := sum_tally_pos h
    exact Or.inl ⟨d, hd⟩
  · exact Or.inr (owedRcv_pos h)

/-- A receive cell's level is 2. -/
theorem lv_rcv (c : Dev nD) (d : Fin 16) : lv (rcvCell c d) () = 2 := if_pos (by simp only; omega)

/-- A device may wait at a staging or send cell, whether it owes all or nothing. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by
        rw [Finset.mem_singleton.mp hp]
        show (if 20 ≤ q.val then 2 else 0) ≤ 0
        rw [if_neg (by omega)])
      (fun g u hg => by
        rcases O₀_pos hg with ⟨d, rfl⟩ | ⟨d, rfl⟩
        · exact Nat.one_pos
        · rw [lv_rcv]; decide)
  · rw [MayWait_zero]; iintro -; iempintro

/-- A device that owes only receive credits may wait at its barrier. -/
theorem mayWait_bar (c : Dev nD) :
    (levAts L lv : sProp 𝕄) ⊢ MayWait (c : Thread nD τ) (.reg barS) () (owedRcv c 1) :=
  MayOwe.of_cut (L := L) (lev := lv) 1 (fun p hp => by rw [Finset.mem_singleton.mp hp, L_tc]; exact Finset.mem_singleton_self _)
    (fun g u hg => by obtain ⟨d, rfl⟩ := owedRcv_pos hg; exact Finset.mem_singleton_self _)
    (fun p hp => by rw [Finset.mem_singleton.mp hp]; exact Nat.le_refl 1)
    (fun g u hg => by obtain ⟨d, rfl⟩ := owedRcv_pos hg; rw [lv_rcv]; decide)

end Cert.Moe

end
-- ==== Proof.Steps.lean ====
/-
# One rule per kind of step

The kernel's body repeats five steps fifteen times each: a barrier signal, a copy, a wait for an arriving block, a wait for
a departed one, and (four times) the computation of one expert's rows. This module states each step once, for a symbolic
device `c` and offset `n`, as a passage from the state before to the state after. A state `stage n Pre Post` holds, for every
other offset `d`, the resource `Pre d` when step `d` is still to come (`n ≤ d`) and `Post d` when it is done.
-/
module

public import proofs.«01_k».proof.Proof.Proto

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The body has no loops to bound. -/
abbrev 𝒱₀ : Variants := Variants.none

/-! ## The cells' invariants -/

/-- A device's cells: its barrier cell, its send cells, its receive cells. -/
abbrev CK : Type := Unit ⊕ (Fin 16 ⊕ Fin 16)
/-- The semaphore of a cell. -/
def csem : CK → SemLoc sig
  | .inl _ => .reg barS
  | .inr (.inl d) => .dma (sndS d)
  | .inr (.inr d) => .dma (rcvS d)
/-- The cell of a device. -/
abbrev kcell (ck : Dev nD × CK) : GSem nD τ sig := ((ck.1 : Thread nD τ), csem ck.2)

/-- Every cell's invariant, at names `K`, and that it has reached its first round. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)
/-- The records may be used again and again. -/
instance records_persistent (K : Dev nD × CK → ℕ) : BI.Persistent (records m ρ K) := by unfold records; infer_instance

/-- The records give each cell's invariant. -/
theorem inv_of (K : Dev nD × CK → ℕ) (ck : Dev nD × CK) : records m ρ K ⊢ cellInv ER (Rd m ρ) (K ck) (kcell ck) := by
  unfold records
  iintro ⟨H, -⟩
  iapply (show (bigSep Finset.univ fun ck : Dev nD × CK => (cellInv ER (Rd m ρ) (K ck) (kcell ck) : sProp 𝕄)) ⊢ cellInv ER (Rd m ρ) (K ck) (kcell ck) from bigSep_elim (Φ := fun ck : Dev nD × CK => (cellInv ER (Rd m ρ) (K ck) (kcell ck) : sProp 𝕄)) (Finset.mem_univ ck)); iexact H
/-- The records give that each cell has reached round 0. -/
theorem reached_of (K : Dev nD × CK → ℕ) (ck : Dev nD × CK) : records m ρ K ⊢ reached ER (kcell ck) 0 := by
  unfold records
  iintro ⟨-, H⟩
  iapply (show (bigSep Finset.univ fun ck : Dev nD × CK => (reached ER (kcell ck) 0 : sProp 𝕄)) ⊢ reached ER (kcell ck) 0 from bigSep_elim (Φ := fun ck : Dev nD × CK => (reached ER (kcell ck) 0 : sProp 𝕄)) (Finset.mem_univ ck)); iexact H

/-! ## Stages -/

/-- The state when the steps below offset `n` are done. -/
def stage (n : ℕ) (Pre Post : Fin 16 → sProp 𝕄) : sProp 𝕄 := bigSep offs fun d => if n ≤ d.val then Pre d else Post d

omit [FloatOps F] in
/-- One member apart from a family. -/
theorem big_erase {s : Finset (Fin 16)} {n : Fin 16} (h : n ∈ s) (Φ : Fin 16 → sProp 𝕄) : bigSep s Φ = iprop(Φ n ∗ bigSep (s.erase n) Φ) := bigSep_erase h

omit [FloatOps F] in
/-- Step `n` takes its resource out and puts its result back. -/
theorem stage_take (Pre Post : Fin 16 → sProp 𝕄) (n : Fin 16) (hn : n ≠ 0) :
    stage n.val Pre Post ⊢ iprop(Pre n ∗ (Post n -∗ stage (n.val + 1) Pre Post)) := by
  have hm : n ∈ offs := Finset.mem_erase.mpr ⟨hn, Finset.mem_univ _⟩
  unfold stage
  rw [big_erase hm, big_erase hm, if_pos le_rfl, if_neg (by omega),
    bigSep_congr (s := offs.erase n) (Φ := fun d => if n.val ≤ d.val then Pre d else Post d) (Ψ := fun d => if n.val + 1 ≤ d.val then Pre d else Post d)
      (fun d hd => by
        have : d.val ≠ n.val := fun h => (Finset.mem_erase.mp hd).1 (Fin.ext h)
        by_cases h : n.val ≤ d.val
        · rw [if_pos h, if_pos (by omega)]
        · rw [if_neg h, if_neg (by omega)])]
  iintro ⟨H, Hr⟩
  isplitl [H]; · iexact H
  iintro Hp
  isplitl [Hp] <;> iassumption

omit [FloatOps F] in
/-- At the start every step is to come. -/
theorem stage_start (Pre Post : Fin 16 → sProp 𝕄) : stage 1 Pre Post = bigSep offs Pre :=
  bigSep_congr fun d hd => if_pos (by
    have : d.val ≠ 0 := fun h => (Finset.mem_erase.mp hd).1 (Fin.ext h)
    omega)
omit [FloatOps F] in
/-- At the end every step is done. -/
theorem stage_end (Pre Post : Fin 16 → sProp 𝕄) : stage 16 Pre Post = bigSep offs Post :=
  bigSep_congr fun d _ => if_neg (by omega)

/-- What device `c` owes, whatever it has waited on. -/
def owesAny (c : Dev nD) (O : CellTallies nD τ sig Unit) : sProp 𝕄 := iprop(∃ W, owes (c : Thread nD τ) O W)

/-- Device `c`'s program runs from `P`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A printed destination is the device `n` places on. -/
theorem dev_eq (n : Fin 16) {f : Dev nD → ℕ} {h : ∀ c, f c < nD} (hf : ∀ c : Dev nD, f c = (c + n).val) (c : Dev nD) :
    (⟨f c, h c⟩ : Dev nD) = c + n := Fin.ext (hf c)

section Steps

variable (K : Dev nD × CK → ℕ) (c : Dev nD) {α : Type} {Q : α → sProp (MT nD τ sig Unit (Elt F) ℕ UU ℕ)} {k : PUnit.{1} → Prog (TpuEff nD τ sig (Elt F) Λ₀ .tc) α}
  {R : sProp (MT nD τ sig Unit (Elt F) ℕ UU ℕ)}

/-! ## Signals -/

/-- What signal `d` needs: the duty's token and the band it hands over. -/
def sigPre (d : Fin 16) : sProp 𝕄 := iprop(dutyTok ER (barCell (c + d)) 0 d ∗ ∃ f, bandPts c (-d) fullShare f)
/-- The state among the signals. -/
def sigSt (n : ℕ) : sProp 𝕄 := iprop(records m ρ K ∗ stage n (sigPre c) (fun _ => iprop(emp)) ∗ owesAny c (owedBar c n))

/-- One barrier signal. -/
theorem cut_sig (n : Fin 16) (hn : n ≠ 0) {t : Dev nD} (ht : t = c + n) {sm : Sem sig} (hsm : sm = barS) {a : ℕ} (ha : a = 1)
    (h : iprop(R ∗ sigSt m ρ K c (n.val + 1)) ⊢ runs c (k ⟨⟩) Q) :
    iprop(R ∗ sigSt m ρ K c n.val) ⊢ runs c (.op (.semSignal (t : Thread nD τ) sm a) k) Q := by
  subst ht hsm ha
  unfold sigSt owesAny at *
  iintro ⟨HR, #Hrec, Hst, ⟨%W, HO⟩⟩
  ihave H := (stage_take _ _ n hn) $$ Hst
  icases H with ⟨Hp, Hst⟩
  unfold sigPre
  icases Hp with ⟨Htok, ⟨%f, Hb⟩⟩
  iapply (Rounds.wp_signal 𝒱₀ ER (Rd m ρ) (c : Thread nD τ) none (dst := (c + n : Thread nD τ)) (κ := K (c + n, .inl ()))
      (d := n) (by rw [duties_bar]; exact Finset.mem_erase.mpr ⟨hn, Finset.mem_univ _⟩) (amount_bar m ρ (c + n) n) () (owedBar c (n.val + 1))
      (owedBar_step c n hn)) $$ [HO Htok Hb]
  · isplitr; · iapply (inv_of m ρ K (c + n, .inl ())); iexact Hrec
    isplitl [HO]; · iexact HO
    isplitl [Htok]; · iexact Htok
    isplitl [Hb]
    · rw [payload_bar]; unfold barPay; rw [add_sub16]; iexists f; iexact Hb
    · iapply (reached_of m ρ K (c + n, .inl ())); iexact Hrec
  iintro HO
  iapply h
  isplitl [HR]; · iexact HR
  isplitr; · iexact Hrec
  isplitl [Hst]
  · iapply Hst; iempintro
  iexists W; iexact HO

/-! ## The barrier wait -/

/-- The bands received from the others, into which this device copies. -/
def got : sProp 𝕄 := bigSep offs fun e => iprop(∃ f, bandPts (F := F) (c + e) e fullShare f)
/-- What the barrier wait needs: the credit, the position and the levels. -/
def barPre : sProp 𝕄 := iprop(cred (tallyAt (barCell c) () 15) ∗ atPos ER (barCell c) 0 ∅ 0 ∗ levAts L lv)

/-- The barrier wait. -/
theorem cut_bar {sm : Sem sig} (hsm : sm = barS) {a : ℕ} (ha : a = 15)
    (h : iprop(R ∗ got c ∗ atPos ER (barCell c) (0 + 1) ∅ 0 ∗ records m ρ K ∗ owesAny c (owedRcv c 1)) ⊢ runs c (k ⟨⟩) Q) :
    iprop((R ∗ barPre c) ∗ sigSt m ρ K c 16) ⊢ runs c (.op (.semWait sm a) k) Q := by
  subst hsm ha
  unfold sigSt owesAny barPre got at *
  iintro ⟨⟨HR, Hc, Hat, Hlev⟩, #Hrec, -, ⟨%W, HO⟩⟩
  rw [owedBar_end]
  iapply (Rounds.wp_wait_rest_token 𝒱₀ ER (Rd m ρ) (c : Thread nD τ) none (κ := K (c, .inl ()))
      (wpE_semWait_eq 𝒱₀ (c : Thread nD τ) none Set.univ) (Set.mem_univ _) () (O := owedRcv c 1) (W := W) (R := 0) (m := 0) (T := ∅)
      (by rw [expect_bar])) $$ [Hc HO Hat Hlev]
  · isplitr; · iapply (inv_of m ρ K (c, .inl ())); iexact Hrec
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar m ρ c)) $$ Hpay
  iapply h
  isplitl [HR]; · iexact HR
  isplitl [Hp]; · iexact Hp
  isplitl [Hat]; · iexact Hat
  isplitr; · iexact Hrec
  iexists _; iexact HO

/-! ## Copies -/

/-- The copy of the own block lands in band `d` of device `c + d` as that device's `commFull`. -/
theorem landed (n : Fin 16) (hn : n ≠ 0) (f : (cc0_scratch0 : Ref sig .tc).ty.Contents (Elt F)) :
    ∀ i ∈ bandSet n, (band n).view.write (Elt F) f ((band 0).view.read (Elt F) (commFull m ρ c)) Finset.univ i = commFull m ρ (c + n) i := by
  intro i hi
  rw [← band_set, View.set, Finset.mem_map] at hi
  obtain ⟨j, -, rfl⟩ := hi
  rw [View.write_emb_of_mem _ _ (Finset.mem_univ j)]
  have e0 : ((band n).view.emb j 0).val = 48 * n.val + (j 0).val := by
    show 48 * n.val + 1 * (j 0).val = _; omega
  have e1 : ((band n).view.emb j 1).val = (j 1).val := by
    show 0 + 1 * (j 1).val = _; omega
  have z0 : ((band 0).view.emb j 0).val = (j 0).val := by
    show 48 * 0 + 1 * (j 0).val = _; omega
  have z1 : ((band 0).view.emb j 1).val = (j 1).val := by
    show 0 + 1 * (j 1).val = _; omega
  have hj : (j 0).val < 48 := (j 0).isLt
  show commFull m ρ c ((band 0).view.emb j) = commFull m ρ (c + n) ((band n).view.emb j)
  unfold commFull
  have hs : ∀ (a b : Fin 16) (e e' : Fin 4) (x y : S12x512.Idx), a = b → e = e' → x = y → blk m ρ a e x = blk m ρ b e' y := by
    rintro _ _ _ _ _ _ rfl rfl rfl; rfl
  refine hs _ _ _ _ _ _ ?_ (Fin.ext ?_) (funext fun a => ?_)
  · rw [show (⟨((band 0).view.emb j 0).val / 48, by have : ((band 0).view.emb j 0).val < 768 := ((band 0).view.emb j 0).isLt; omega⟩ : Fin 16) = 0 from
        Fin.ext (by show ((band 0).view.emb j 0).val / 48 = 0; rw [z0]; omega),
      show (⟨((band n).view.emb j 0).val / 48, by have : ((band n).view.emb j 0).val < 768 := ((band n).view.emb j 0).isLt; omega⟩ : Fin 16) = n from
        Fin.ext (by show ((band n).view.emb j 0).val / 48 = n.val; rw [e0]; omega)]
    exact (by decide : ∀ c n : Fin 16, c - 0 = c + n - n) c n
  · show ((band 0).view.emb j 0).val % 48 / 12 = ((band n).view.emb j 0).val % 48 / 12
    rw [z0, e0]; omega
  · match a with
    | 0 => exact Fin.ext (by show ((band 0).view.emb j 0).val % 12 = ((band n).view.emb j 0).val % 12; rw [z0, e0]; omega)
    | 1 => exact Fin.ext (by show ((band 0).view.emb j 1).val = ((band n).view.emb j 1).val; rw [z1, e1])

/-- What copy `d` needs: two tokens, the target band and a lent share of the own block. -/
def sndPre (d : Fin 16) : sProp 𝕄 :=
  iprop(dutyTok ER (sndCell c d) 0 0 ∗ dutyTok ER (rcvCell (c + d) d) 0 0 ∗ (∃ f, bandPts (c + d) d fullShare f) ∗ bandPts c 0 (lent d) (commFull m ρ c))
/-- What it leaves: the credit of its departure. -/
def sndPost (d : Fin 16) : sProp 𝕄 := cred (tallyAt (sndCell c d) () N)
/-- The state among the copies. -/
def sndSt (n : ℕ) : sProp 𝕄 := iprop(records m ρ K ∗ stage n (sndPre m ρ c) (sndPost c) ∗ owesAny c (owedRcv c n))

/-- The start of one copy. -/
theorem cut_snd (n : Fin 16) (hn : n ≠ 0) {t : Dev nD} (ht : t = c + n) {src : Memref sig .tc .vmem S48x512 .bf16} (hs : src = band 0)
    {dst : Memref sig (Dev.tc t : Thread nD τ).2.kind .vmem S48x512 .bf16} (hd : dst = band n) {qs qr : DmaSem sig} (hqs : qs = sndS n) (hqr : qr = rcvS n)
    {hsc : dst.view.ref.isScScratch = false}
    {hsrc : src.view.WordExact} {hdst : dst.view.WordExact}
    {hsem : DmaTarget.Typed .vmem (.dma qr) (.remote (Dev.tc t : Thread nD τ) dst (.dma qs) hsc)}
    (h : iprop(R ∗ sndSt m ρ K c (n.val + 1)) ⊢ runs c (k ⟨⟩) Q) :
    iprop(R ∗ sndSt m ρ K c n.val) ⊢ runs c (.op (.enqueueDma src (.remote (Dev.tc t : Thread nD τ) dst (.dma qs) hsc) (.dma qr) hsrc hdst hsem) k) Q := by
  subst ht hs hd hqs hqr
  unfold sndSt owesAny at *
  iintro ⟨HR, #Hrec, Hst, ⟨%W, HO⟩⟩
  ihave H := (stage_take _ _ n hn) $$ Hst
  icases H with ⟨Hp, Hst⟩
  unfold sndPre
  icases Hp with ⟨Hts, Htr, ⟨%f, Hb⟩, Hown⟩
  iapply (Rounds.wp_send_pointsTo 𝒱₀ ER (Rd m ρ) (c : Thread nD τ) none (c' := (c + n : Thread nD τ)) (src := band 0) (dst := band n) (q := lent n) (fs := commFull m ρ c)
      (κ₁ := K (c, .inr (.inl n))) (κ₂ := K (c + n, .inr (.inr n)))
      (r₁ := 0) (r₂ := 0) (d₁ := 0) (d₂ := 0) (fd := f)
      (by rw [duties_snd m ρ c n hn]; exact Finset.mem_singleton_self _) (by rw [duties_rcv m ρ (c + n) n hn]; exact Finset.mem_singleton_self _)
      () () N (show (band n).view.amount (.dma (rcvS n)) = N from N_band n) (amount_snd m ρ c n 0) (amount_rcv m ρ (c + n) n 0) (owedRcv c (n.val + 1)) (owedRcv_step c n hn) (W := W)
      (by rw [payload_snd]; unfold sndPay bandPts; rw [band_set])
      (by
        rw [payload_rcv]; unfold rcvPay
        rw [← bandPts_congr (landed m ρ c n hn f)]
        unfold bandPts; rw [band_set])) $$ [HO Hts Htr Hb Hown]
  · isplitr; · iapply (inv_of m ρ K (c, .inr (.inl n))); iexact Hrec
    isplitr; · iapply (inv_of m ρ K (c + n, .inr (.inr n))); iexact Hrec
    isplitl [Hown]; · rw [band_set]; unfold bandPts; iexact Hown
    isplitl [Hb]; · rw [band_set]; unfold bandPts; iexact Hb
    isplitl [HO]; · iexact HO
    isplitl [Hts]; · iexact Hts
    isplitr; · iapply (reached_of m ρ K (c, .inr (.inl n))); iexact Hrec
    isplitl [Htr]; · iexact Htr
    iapply (reached_of m ρ K (c + n, .inr (.inr n))); iexact Hrec
  iintro ⟨Hc, HO⟩
  iapply h
  isplitl [HR]; · iexact HR
  isplitr; · iexact Hrec
  isplitl [Hst Hc]
  · iapply Hst; unfold sndPost; iexact Hc
  iexists W; iexact HO

/-! ## Waits for arriving and departed blocks -/

/-- What the wait for arrival `d` needs. -/
def rcvPre (d : Fin 16) : sProp 𝕄 := iprop(cred (tallyAt (rcvCell c d) () N) ∗ atPos ER (rcvCell c d) 0 ∅ 0)
/-- What it gives: the landed band. -/
def rcvPost (d : Fin 16) : sProp 𝕄 := iprop(atPos ER (rcvCell c d) (0 + 1) ∅ 0 ∗ bandPts c d fullShare (commFull m ρ c))
/-- The state among the waits for arriving blocks. -/
def rcvSt (n : ℕ) : sProp 𝕄 := iprop(records m ρ K ∗ stage n (rcvPre c) (rcvPost m ρ c) ∗ owesAny c 0)

/-- One wait for an arriving block. -/
theorem cut_rcv (n : Fin 16) (hn : n ≠ 0) {q : DmaSem sig} (hq : q = rcvS n) {src dst : Memref sig .tc .vmem S48x512 .bf16} (hd : dst = band n)
    {hsrc : src.view.WordExact} {hdst : dst.view.WordExact}
    (h : iprop(R ∗ rcvSt m ρ K c (n.val + 1)) ⊢ runs c (k ⟨⟩) Q) :
    iprop(R ∗ rcvSt m ρ K c n.val) ⊢ runs c (.op (.waitDma2 q src dst hsrc hdst) k) Q := by
  subst hq hd
  unfold rcvSt owesAny at *
  iintro ⟨HR, #Hrec, Hst, ⟨%W, HO⟩⟩
  ihave H := (stage_take _ _ n hn) $$ Hst
  icases H with ⟨Hp, Hst⟩
  unfold rcvPre
  icases Hp with ⟨Hc, Hat⟩
  iapply (Rounds.wp_wait_rest_token 𝒱₀ ER (Rd m ρ) (c : Thread nD τ) none (κ := K (c, .inr (.inr n)))
      (wpE_waitDma2_eq 𝒱₀ (c : Thread nD τ) none Set.univ) (Set.mem_univ _) () (O := 0) (W := W) (R := 0) (m := 0) (T := ∅)
      (by rw [expect_rcv m ρ c n hn, Nat.zero_add])) $$ [Hc HO Hat]
  · isplitr; · iapply (inv_of m ρ K (c, .inr (.inr n))); iexact Hrec
    isplitl [Hc]; · iexact Hc
    isplitl [HO]; · iexact HO
    isplitr; · rw [MayWait_zero]; iempintro
    iexact Hat
  iintro ⟨HO, Hat, -, Hpay⟩
  ihave Hb := (Entails.of_eq (rest_rcv m ρ c n hn)) $$ Hpay
  iapply h
  isplitl [HR]; · iexact HR
  isplitr; · iexact Hrec
  isplitl [Hst Hat Hb]
  · iapply Hst; unfold rcvPost
    isplitl [Hat]; · iexact Hat
    unfold rcvPay; iexact Hb
  iexists _; iexact HO

/-- What the wait for departure `d` needs. -/
def depPre (d : Fin 16) : sProp 𝕄 := iprop(cred (tallyAt (sndCell c d) () N) ∗ atPos ER (sndCell c d) 0 ∅ 0)
/-- What it gives: the lent share of the own block. -/
def depPost (d : Fin 16) : sProp 𝕄 := iprop(atPos ER (sndCell c d) (0 + 1) ∅ 0 ∗ bandPts c 0 (lent d) (commFull m ρ c))
/-- The state among the waits for departed copies. -/
def depSt (n : ℕ) : sProp 𝕄 := iprop(records m ρ K ∗ stage n (depPre c) (depPost m ρ c) ∗ owesAny c 0)

/-- One wait for a departed copy. -/
theorem cut_dep (n : Fin 16) (hn : n ≠ 0) {q : DmaSem sig} (hq : q = sndS n) {src dst : Memref sig .tc .vmem S48x512 .bf16} (hd : dst = band 0)
    {hsrc : src.view.WordExact} {hdst : dst.view.WordExact}
    (h : iprop(R ∗ depSt m ρ K c (n.val + 1)) ⊢ runs c (k ⟨⟩) Q) :
    iprop(R ∗ depSt m ρ K c n.val) ⊢ runs c (.op (.waitDma2 q src dst hsrc hdst) k) Q := by
  subst hq hd
  unfold depSt owesAny at *
  iintro ⟨HR, #Hrec, Hst, ⟨%W, HO⟩⟩
  ihave H := (stage_take _ _ n hn) $$ Hst
  icases H with ⟨Hp, Hst⟩
  unfold depPre
  icases Hp with ⟨Hc, Hat⟩
  iapply (Rounds.wp_wait_rest_token 𝒱₀ ER (Rd m ρ) (c : Thread nD τ) none (κ := K (c, .inr (.inl n)))
      (wpE_waitDma2_eq 𝒱₀ (c : Thread nD τ) none Set.univ) (Set.mem_univ _) () (O := 0) (W := W) (R := 0) (m := 0) (T := ∅)
      (by rw [expect_snd m ρ c n hn, Nat.zero_add])) $$ [Hc HO Hat]
  · isplitr; · iapply (inv_of m ρ K (c, .inr (.inl n))); iexact Hrec
    isplitl [Hc]; · iexact Hc
    isplitl [HO]; · iexact HO
    isplitr; · rw [MayWait_zero]; iempintro
    iexact Hat
  iintro ⟨HO, Hat, -, Hpay⟩
  ihave Hb := (Entails.of_eq (rest_snd m ρ c n hn)) $$ Hpay
  iapply h
  isplitl [HR]; · iexact HR
  isplitr; · iexact Hrec
  isplitl [Hst Hat Hb]
  · iapply Hst; unfold depPost
    isplitl [Hat]; · iexact Hat
    unfold sndPay; iexact Hb
  iexists _; iexact HO

/-! ## Loads and stores -/

/-- The staging buffers: the inputs' as fetched, the result's at `o`. -/
def memSt (o : (cc0_stg3_0 : Ref sig .tc).ty.Contents (Elt F)) : sProp 𝕄 :=
  iprop(((c : Thread nD τ).loc cc0_stg0_0 ↦{fullShare} xstg m ρ c) ∗ ((c : Thread nD τ).loc cc0_stg1_0 ↦{fullShare} istg m ρ c)
    ∗ ((c : Thread nD τ).loc cc0_stg2_0 ↦{fullShare} wstg m ρ c) ∗ ((c : Thread nD τ).loc cc0_stg3_0 ↦{fullShare} o))

/-- The zero offsets. -/
theorem hz : (![0, 0] : Fin 2 → Nat) = fun _ => 0 := funext fun a => by fin_cases a <;> rfl

variable {o : (cc0_stg3_0 : Ref sig .tc).ty.Contents (Elt F)}

/-- The load of the tokens. -/
theorem cut_x {inb} {hl} {k : _ → Prog (TpuEff nD τ sig (Elt F) Λ₀ .tc) α}
    (h : iprop(R ∗ memSt m ρ c o) ⊢ runs c (k (xstg m ρ c)) Q) :
    iprop(R ∗ memSt m ρ c o) ⊢ runs c (.op (.load xM (Rect.unit (s := S1024x256) ![0, 0] S1024x256.size inb).toLoadRect hl) k) Q := by
  unfold memSt at *
  iintro ⟨HR, Hx, Hi, Hw, Ho⟩
  iapply (wp_load 𝒱₀ (c : Thread nD τ) none Set.univ (m := xM) (Finset.subset_univ _)) $$ Hx; iintro Hx
  rw [show xM.view.readAt (Elt F) (Rect.unit (s := S1024x256) ![0, 0] S1024x256.size inb).toLoadRect (xstg m ρ c) = xstg m ρ c from
    Memref.readAt_unit_zero (Elt F) cc0_stg0_0 hz _ _]
  iapply h
  isplitl [HR]; · iexact HR
  isplitl [Hx]; · iexact Hx
  isplitl [Hi]; · iexact Hi
  isplitl [Hw] <;> iassumption

/-- The load of the route indices. -/
theorem cut_i {inb} {hl} {k : _ → Prog (TpuEff nD τ sig (Elt F) Λ₀ .tc) α}
    (h : iprop(R ∗ memSt m ρ c o) ⊢ runs c (k (istg m ρ c)) Q) :
    iprop(R ∗ memSt m ρ c o) ⊢ runs c (.op (.load iM (Rect.unit (s := S1024x1) ![0, 0] S1024x1.size inb).toLoadRect hl) k) Q := by
  unfold memSt at *
  iintro ⟨HR, Hx, Hi, Hw, Ho⟩
  iapply (wp_load 𝒱₀ (c : Thread nD τ) none Set.univ (m := iM) (Finset.subset_univ _)) $$ Hi; iintro Hi
  rw [show iM.view.readAt (Elt F) (Rect.unit (s := S1024x1) ![0, 0] S1024x1.size inb).toLoadRect (istg m ρ c) = istg m ρ c from
    Memref.readAt_unit_zero (Elt F) cc0_stg1_0 hz _ _]
  iapply h
  isplitl [HR]; · iexact HR
  isplitl [Hx]; · iexact Hx
  isplitl [Hi]; · iexact Hi
  isplitl [Hw] <;> iassumption

/-- A load of weights. -/
theorem cut_w {r : LoadRect S4x256x512} {hl} {k : (r.shape.Idx → Elt F .f32) → Prog (TpuEff nD τ sig (Elt F) Λ₀ .tc) α}
    (h : iprop(R ∗ memSt m ρ c o) ⊢ runs c (k (wM.view.readAt (Elt F) r (wstg m ρ c))) Q) :
    iprop(R ∗ memSt m ρ c o) ⊢ runs c (.op (.load wM r hl) k) Q := by
  unfold memSt at *
  iintro ⟨HR, Hx, Hi, Hw, Ho⟩
  iapply (wp_load 𝒱₀ (c : Thread nD τ) none Set.univ (m := wM) (Finset.subset_univ _)) $$ Hw; iintro Hw
  iapply h
  isplitl [HR]; · iexact HR
  isplitl [Hx]; · iexact Hx
  isplitl [Hi]; · iexact Hi
  isplitl [Hw] <;> iassumption

/-- A load of the result's buffer, whose value is not used. -/
theorem cut_oload {r : LoadRect S1024x512} {hl} {k : (r.shape.Idx → Elt F .f32) → Prog (TpuEff nD τ sig (Elt F) Λ₀ .tc) α}
    (h : ∀ v, iprop(R ∗ memSt m ρ c o) ⊢ runs c (k v) Q) :
    iprop(R ∗ memSt m ρ c o) ⊢ runs c (.op (.load oM r hl) k) Q := by
  unfold memSt at *
  iintro ⟨HR, Hx, Hi, Hw, Ho⟩
  iapply (wp_load 𝒱₀ (c : Thread nD τ) none Set.univ (m := oM) (Finset.subset_univ _)) $$ Ho; iintro Ho
  iapply (h _)
  isplitl [HR]; · iexact HR
  isplitl [Hx]; · iexact Hx
  isplitl [Hi]; · iexact Hi
  isplitl [Hw] <;> iassumption

/-- The store of the whole result. -/
theorem cut_ostore {inb} {w : (cc0_stg3_0 : Ref sig .tc).ty.Contents (Elt F)} {hx} {hm}
    (h : iprop(R ∗ memSt m ρ c w) ⊢ runs c (k ⟨⟩) Q) :
    iprop(R ∗ memSt m ρ c o) ⊢ runs c (.op (.store oM (Rect.unit (s := S1024x512) ![0, 0] S1024x512.size inb) w Finset.univ hx hm) k) Q := by
  unfold memSt at *
  iintro ⟨HR, Hx, Hi, Hw, Ho⟩
  iapply (wp_store 𝒱₀ (c : Thread nD τ) none Set.univ (m := oM) (r := Rect.unit (s := S1024x512) ![0, 0] S1024x512.size inb) (Mk := Finset.univ) (Finset.subset_univ _)) $$ Ho; iintro Ho
  rw [show (oM.access (Rect.unit (s := S1024x512) ![0, 0] S1024x512.size inb) : View sig .tc _ _ _).write (Elt F) o w Finset.univ = w from
    Memref.write_access_unit_zero_univ (Elt F) cc0_stg3_0 hz _ o w]
  iapply h
  isplitl [HR]; · iexact HR
  isplitl [Hx]; · iexact Hx
  isplitl [Hi]; · iexact Hi
  isplitl [Hw] <;> iassumption

/-- A load of twelve rows of the own block, whose value is not used. -/
theorem cut_rload {f : (cc0_scratch0 : Ref sig .tc).ty.Contents (Elt F)} {S : sProp (MT nD τ sig Unit (Elt F) ℕ UU ℕ)} (b : Fin 4) {inb} {hl} {k : _ → Prog (TpuEff nD τ sig (Elt F) Λ₀ .tc) α}
    (h : ∀ v, iprop((R ∗ bandPts c 0 fullShare f) ∗ S) ⊢ runs c (k v) Q) :
    iprop((R ∗ bandPts c 0 fullShare f) ∗ S)
      ⊢ runs c (.op (.load rM (Rect.unit (s := S768x512) ![12 * b.val, 0] S12x512.size inb).toLoadRect hl) k) Q := by
  unfold bandPts at *
  iintro ⟨⟨HR, Hb⟩, HS⟩
  iapply (wp_load 𝒱₀ (c : Thread nD τ) none Set.univ (m := rM) (by
    intro i hi
    have hi' : i ∈ (Rect.unit (s := S768x512) ![12 * b.val, 0] S12x512.size inb).set := by
      rw [View.setOn, Finset.mem_map] at hi
      obtain ⟨x, hx, rfl⟩ := hi
      exact hx
    have h0 := (Rect.mem_set_unit.mp hi') 0
    have h0' : 12 * b.val ≤ (i 0).val ∧ (i 0).val < 12 * b.val + 12 := h0
    exact mem_bandSet.mpr (by simp only [Fin.val_zero]; omega))) $$ Hb; iintro Hb
  iapply (h _)
  isplitl [HR Hb]
  · isplitl [HR] <;> iassumption
  iexact HS

/-- Twelve rows of the own block lie within the buffer. -/
theorem rowsInb (b : Fin 4) : ∀ a, (![12 * b.val, 0] : Fin 2 → Nat) a + S12x512.size a ≤ S768x512.size a := by
  revert b; decide
/-- Rows `12 b` to `12 b + 11`. -/
abbrev rowsR (b : Fin 4) : Rect S768x512 := Rect.unit (s := S768x512) ![12 * b.val, 0] S12x512.size (rowsInb b)

/-- The contents after twelve rows from row `12 b` on are stored. -/
def putRows (b : Fin 4) (w : FVec F S12x512 .bf16) (f : (cc0_scratch0 : Ref sig .tc).ty.Contents (Elt F)) : (cc0_scratch0 : Ref sig .tc).ty.Contents (Elt F) :=
  (rM.access (rowsR b)).write (Elt F) f w Finset.univ

/-- The store of twelve rows of the own block. -/
theorem cut_rstore {f : (cc0_scratch0 : Ref sig .tc).ty.Contents (Elt F)} {S : sProp (MT nD τ sig Unit (Elt F) ℕ UU ℕ)} (b : Fin 4) {inb} {w : FVec F S12x512 .bf16} {hx} {hm}
    (h : iprop((R ∗ bandPts c 0 fullShare (putRows b w f)) ∗ S) ⊢ runs c (k ⟨⟩) Q) :
    iprop((R ∗ bandPts c 0 fullShare f) ∗ S)
      ⊢ runs c (.op (.store rM (Rect.unit (s := S768x512) ![12 * b.val, 0] S12x512.size inb) w Finset.univ hx hm) k) Q := by
  unfold bandPts at *
  iintro ⟨⟨HR, Hb⟩, HS⟩
  iapply (wp_store 𝒱₀ (c : Thread nD τ) none Set.univ (m := rM) (r := Rect.unit (s := S768x512) ![12 * b.val, 0] S12x512.size inb) (Mk := Finset.univ) (by
    intro i hi
    have hi' : i ∈ (Rect.unit (s := S768x512) ![12 * b.val, 0] S12x512.size inb).set := by
      rw [View.setOn_univ] at hi
      rw [← View.set_slice_whole cc0_scratch0 (Rect.unit (s := S768x512) ![12 * b.val, 0] S12x512.size inb)]
      exact hi
    have h0 := (Rect.mem_set_unit.mp hi') 0
    have h0' : 12 * b.val ≤ (i 0).val ∧ (i 0).val < 12 * b.val + 12 := h0
    exact mem_bandSet.mpr (by simp only [Fin.val_zero]; omega))) $$ Hb; iintro Hb
  iapply h
  isplitl [HR Hb]
  · isplitl [HR]; · iexact HR
    iexact Hb
  iexact HS

/-- The whole communication buffer, at the share kept for loads. -/
def allPts : sProp 𝕄 := (c : Thread nD τ).loc cc0_scratch0 ↦{kept} commFull m ρ c

/-- The load of the whole communication buffer. -/
theorem cut_all {S : sProp (MT nD τ sig Unit (Elt F) ℕ UU ℕ)} {inb} {hl} {k : _ → Prog (TpuEff nD τ sig (Elt F) Λ₀ .tc) α}
    (h : iprop((R ∗ allPts m ρ c) ∗ S) ⊢ runs c (k (commFull m ρ c)) Q) :
    iprop((R ∗ allPts m ρ c) ∗ S)
      ⊢ runs c (.op (.load rM (Rect.unit (s := S768x512) ![0, 0] S768x512.size inb).toLoadRect hl) k) Q := by
  unfold allPts at *
  iintro ⟨⟨HR, Hb⟩, HS⟩
  iapply (wp_load 𝒱₀ (c : Thread nD τ) none Set.univ (m := rM) (Finset.subset_univ _)) $$ Hb; iintro Hb
  rw [show rM.view.readAt (Elt F) (Rect.unit (s := S768x512) ![0, 0] S768x512.size inb).toLoadRect (commFull m ρ c) = commFull m ρ c from
    Memref.readAt_unit_zero (Elt F) cc0_scratch0 hz _ _]
  iapply h
  isplitl [HR Hb]
  · isplitl [HR] <;> iassumption
  iexact HS

end Steps

end Cert.Moe

end
-- ==== Proof.Phases.lean ====
/-
# From one phase of the body to the next

The body runs: signals, barrier wait, computation of the own block, copies, waits for the arriving blocks, the scatter product,
waits for the departed copies. Each theorem here only regroups what device `c` holds between two phases.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × CK → ℕ) (c : Dev nD)

/-! ## Bands and shares -/

/-- Device `c`'s whole communication buffer at contents `f`. -/
def scrPts (f : (cc0_scratch0 : Ref sig .tc).ty.Contents (Elt F)) : sProp 𝕄 := (c : Thread nD τ).loc cc0_scratch0 ↦{fullShare} f

omit [FloatOps F] in
/-- The communication buffer is its sixteen bands, at any share. -/
theorem bands_eq (q : PosShare TreeShare) (f : (cc0_scratch0 : Ref sig .tc).ty.Contents (Elt F)) :
    (((c : Thread nD τ).loc cc0_scratch0 ↦{q} f : sProp 𝕄)) = bigSep Finset.univ fun d => bandPts c d q f := by
  unfold bandPts
  have h := pointsTo_biUnion (Ix := Unit) (Name := ℕ) (U := UU) (Lvl := ℕ) (ℓ := (c : Thread nD τ).loc cc0_scratch0) (q := q) (f := f) (Finset.univ : Finset (Fin 16))
    bandSet (fun t _ t' _ h => bandSet_disjoint _ _ h)
  rw [bandSet_cover] at h
  exact h

omit [FloatOps F] in
/-- The same at the full share. -/
theorem scr_eq (f : (cc0_scratch0 : Ref sig .tc).ty.Contents (Elt F)) : (scrPts c f : sProp 𝕄) = bigSep Finset.univ fun d => bandPts c d fullShare f :=
  bands_eq c fullShare f

omit [FloatOps F] in
/-- Offset 0 apart from the others. -/
theorem univ_offs (Φ : Fin 16 → sProp 𝕄) : bigSep Finset.univ Φ = iprop(Φ 0 ∗ bigSep offs Φ) := bigSep_erase (Finset.mem_univ _)

omit [FloatOps F] in
/-- The offsets of the other devices are closed under negation. -/
theorem offs_neg (Φ : Fin 16 → sProp 𝕄) : bigSep offs (fun d => Φ (-d)) = bigSep offs Φ := by
  conv_rhs => rw [show offs = offs.map negE.toEmbedding from by decide, bigSep_map]
  rfl

omit [FloatOps F] in
/-- A band is the share kept for loads and the sixteen lent shares. -/
theorem band_toks (d : Fin 16) (f : (cc0_scratch0 : Ref sig .tc).ty.Contents (Elt F)) :
    (bandPts c d fullShare f : sProp 𝕄) = iprop(bandPts c d kept f ∗ bigSep Finset.univ fun j => bandPts c d (lent j) f) := by
  have h := pointsTo_toks (Ix := Unit) (Name := ℕ) (U := UU) (Lvl := ℕ) (ℓ := (c : Thread nD τ).loc cc0_scratch0) (S := bandSet d) (f := f) fullShare 16
  exact BI.equiv_iff.mp ⟨h.1, h.2⟩

/-! ## The holdings -/

/-- The positions at all send and receive cells, and the credit at the receive cells. -/
def posAll : sProp 𝕄 :=
  iprop((bigSep Finset.univ fun d => atPos ER (sndCell c d) 0 ∅ 0) ∗ (bigSep Finset.univ fun d => atPos ER (rcvCell c d) 0 ∅ 0)
    ∗ bigSep offs fun d => cred (tallyAt (rcvCell c d) () N))
/-- The tokens of the copies: of the own send cell and of the target's receive cell. -/
def copyToks : sProp 𝕄 :=
  iprop((bigSep offs fun d => dutyTok ER (sndCell c d) 0 (0 : Fin 16)) ∗ bigSep offs fun d => dutyTok ER (rcvCell (c + d) d) 0 (0 : Fin 16))
/-- The tokens of the barrier signals. -/
def barToks : sProp 𝕄 := bigSep offs fun d => dutyTok ER (barCell (c + d)) 0 d

/-- What the launch hands device `c`, its levels and owed tallies apart. -/
def held : sProp 𝕄 := iprop(posAll c ∗ copyToks c ∗ barToks c)

variable (o : (cc0_stg3_0 : Ref sig .tc).ty.Contents (Elt F)) (f : (cc0_scratch0 : Ref sig .tc).ty.Contents (Elt F))

/-- Before the signals: the own band 0 stays, every other band goes with a signal. -/
theorem to_signals :
    iprop(records m ρ K ∗ held c ∗ barPre c ∗ scrPts c f ∗ memSt m ρ c o ∗ owesAny c (O₀ c))
      ⊢ iprop(((((posAll c ∗ copyToks c) ∗ bandPts c 0 fullShare f) ∗ memSt m ρ c o) ∗ barPre c) ∗ sigSt m ρ K c 1) := by
  unfold held sigSt
  rw [scr_eq, univ_offs, stage_start]
  unfold sigPre barToks
  rw [bigSep_sep', offs_neg (fun d => iprop(∃ f, bandPts c d fullShare f))]
  iintro ⟨#Hrec, ⟨Hp, Ht, Hb⟩, Hbar, ⟨H0, Hr⟩, Hm, HO⟩
  isplitl [Hp Ht H0 Hm Hbar]
  · isplitl [Hp Ht H0 Hm]
    · isplitl [Hp Ht H0]
      · isplitl [Hp Ht]
        · isplitl [Hp] <;> iassumption
        iexact H0
      iexact Hm
    iexact Hbar
  isplitr; · iexact Hrec
  isplitl [Hb Hr]
  · isplitl [Hb]; · iexact Hb
    iapply (show (bigSep offs fun d => bandPts c d fullShare f : sProp 𝕄) ⊢ bigSep offs fun d => iprop(∃ f, bandPts c d fullShare f) from
      bigSep_mono fun d _ => show (bandPts c d fullShare f : sProp 𝕄) ⊢ iprop(∃ f, bandPts c d fullShare f) by iintro H; iexists f; iexact H)
    iexact Hr
  unfold O₀; iexact HO

/-- After the barrier: the state in which the own block is computed. -/
def own1 : sProp 𝕄 :=
  iprop((posAll c ∗ copyToks c) ∗ got c ∗ atPos ER (barCell c) (0 + 1) ∅ 0 ∗ records m ρ K ∗ owesAny c (owedRcv c 1))

/-- After the barrier wait: what was kept, the bands received and the rest, regrouped. -/
theorem to_compute :
    iprop((((posAll c ∗ copyToks c) ∗ bandPts c 0 fullShare f) ∗ memSt m ρ c o)
        ∗ got c ∗ atPos ER (barCell c) (0 + 1) ∅ 0 ∗ records m ρ K ∗ owesAny c (owedRcv c 1))
      ⊢ iprop((own1 m ρ K c ∗ bandPts c 0 fullShare f) ∗ memSt m ρ c o) := by
  unfold own1
  iintro ⟨⟨⟨Hp, H0⟩, Hm⟩, Hg, Hat, Hrec, HO⟩
  isplitr [Hm]
  · isplitr [H0]
    · isplitl [Hp]; · iexact Hp
      isplitl [Hg]; · iexact Hg
      isplitl [Hat]; · iexact Hat
      isplitl [Hrec] <;> iassumption
    iexact H0
  iexact Hm

/-- Kept beside the copies: everything that no copy touches. -/
def own2 : sProp 𝕄 :=
  iprop(posAll c ∗ atPos ER (barCell c) (0 + 1) ∅ 0 ∗ bandPts c 0 kept (commFull m ρ c) ∗ bandPts c 0 (lent 0) (commFull m ρ c) ∗ memSt m ρ c o)

/-- Before the copies: the own block is split into lent shares, one for each copy. -/
theorem to_copies :
    iprop((own1 m ρ K c ∗ bandPts c 0 fullShare (commFull m ρ c)) ∗ memSt m ρ c o) ⊢ iprop(own2 m ρ c o ∗ sndSt m ρ K c 1) := by
  unfold own1 own2 sndSt
  rw [band_toks, univ_offs (fun j => bandPts c 0 (lent j) (commFull m ρ c)), stage_start]
  unfold sndPre copyToks got
  rw [bigSep_sep', bigSep_sep', bigSep_sep']
  iintro ⟨⟨⟨⟨Hp, Hts, Htr⟩, Hg, Hat, Hrec, HO⟩, Hk, H0, Hl⟩, Hm⟩
  isplitl [Hp Hat Hk H0 Hm]
  · isplitl [Hp]; · iexact Hp
    isplitl [Hat]; · iexact Hat
    isplitl [Hk]; · iexact Hk
    isplitl [H0] <;> iassumption
  isplitl [Hrec]; · iexact Hrec
  isplitr [HO]
  · isplitl [Hts]; · iexact Hts
    isplitl [Htr]; · iexact Htr
    isplitl [Hg] <;> iassumption
  iexact HO

/-- Kept beside the waits for arriving blocks. -/
def own3 : sProp 𝕄 :=
  iprop((bigSep Finset.univ fun d => atPos ER (sndCell c d) 0 ∅ 0) ∗ atPos ER (rcvCell c 0) 0 ∅ 0 ∗ (bigSep offs fun d => cred (tallyAt (sndCell c d) () N))
    ∗ atPos ER (barCell c) (0 + 1) ∅ 0 ∗ bandPts c 0 kept (commFull m ρ c) ∗ bandPts c 0 (lent 0) (commFull m ρ c) ∗ memSt m ρ c o)

/-- Between the copies and the waits for arriving blocks. -/
theorem to_arrivals : iprop(own2 m ρ c o ∗ sndSt m ρ K c 16) ⊢ iprop(own3 m ρ c o ∗ rcvSt m ρ K c 1) := by
  unfold own2 own3 sndSt rcvSt posAll
  rw [stage_end, stage_start, owedRcv_end, univ_offs (fun d => atPos ER (rcvCell c d) 0 ∅ 0)]
  unfold sndPost rcvPre
  rw [bigSep_sep']
  iintro ⟨⟨⟨Hs, ⟨Hr0, Hr⟩, Hc⟩, Hat, Hk, H0, Hm⟩, Hrec, Hst, HO⟩
  isplitl [Hs Hr0 Hst Hat Hk H0 Hm]
  · isplitl [Hs]; · iexact Hs
    isplitl [Hr0]; · iexact Hr0
    isplitl [Hst]; · iexact Hst
    isplitl [Hat]; · iexact Hat
    isplitl [Hk]; · iexact Hk
    isplitl [H0] <;> iassumption
  isplitl [Hrec]; · iexact Hrec
  isplitr [HO]
  · isplitl [Hc] <;> iassumption
  iexact HO

/-- Kept beside the scatter product. -/
def own4 : sProp 𝕄 :=
  iprop((bigSep Finset.univ fun d => atPos ER (sndCell c d) 0 ∅ 0) ∗ atPos ER (rcvCell c 0) 0 ∅ 0 ∗ (bigSep offs fun d => cred (tallyAt (sndCell c d) () N))
    ∗ atPos ER (barCell c) (0 + 1) ∅ 0 ∗ bandPts c 0 (lent 0) (commFull m ρ c)
    ∗ (bigSep offs fun d => atPos ER (rcvCell c d) (0 + 1) ∅ 0)
    ∗ (bigSep offs fun d => bigSep Finset.univ fun j => bandPts c d (lent j) (commFull m ρ c)) ∗ records m ρ K ∗ owesAny c 0)

/-- Before the scatter product: the whole communication buffer may be read, at the kept share. -/
theorem to_product : iprop(own3 m ρ c o ∗ rcvSt m ρ K c 16) ⊢ iprop((own4 m ρ K c ∗ allPts m ρ c) ∗ memSt m ρ c o) := by
  unfold own3 own4 rcvSt allPts
  rw [stage_end, bands_eq, univ_offs (fun d => bandPts c d kept (commFull m ρ c))]
  unfold rcvPost
  rw [bigSep_sep', bigSep_congr (s := offs) (fun d _ => band_toks c d (commFull m ρ c)), bigSep_sep']
  iintro ⟨⟨Hs, Hr0, Hc, Hat, Hk, H0, Hm⟩, Hrec, ⟨Hr, Hks, Hls⟩, HO⟩
  isplitr [Hm]
  · isplitr [Hk Hks]
    · isplitl [Hs]; · iexact Hs
      isplitl [Hr0]; · iexact Hr0
      isplitl [Hc]; · iexact Hc
      isplitl [Hat]; · iexact Hat
      isplitl [H0]; · iexact H0
      isplitl [Hr]; · iexact Hr
      isplitl [Hls]; · iexact Hls
      isplitl [Hrec] <;> iassumption
    isplitl [Hk] <;> iassumption
  iexact Hm

/-- Kept beside the waits for departed copies. -/
def own5 : sProp 𝕄 :=
  iprop(atPos ER (sndCell c 0) 0 ∅ 0 ∗ atPos ER (rcvCell c 0) 0 ∅ 0
    ∗ atPos ER (barCell c) (0 + 1) ∅ 0 ∗ bandPts c 0 (lent 0) (commFull m ρ c)
    ∗ (bigSep offs fun d => atPos ER (rcvCell c d) (0 + 1) ∅ 0)
    ∗ (bigSep offs fun d => bigSep Finset.univ fun j => bandPts c d (lent j) (commFull m ρ c)) ∗ allPts m ρ c ∗ memSt m ρ c o)

/-- Between the scatter product and the waits for departed copies. -/
theorem to_departures : iprop((own4 m ρ K c ∗ allPts m ρ c) ∗ memSt m ρ c o) ⊢ iprop(own5 m ρ c o ∗ depSt m ρ K c 1) := by
  unfold own4 own5 depSt
  rw [stage_start, univ_offs (fun d => atPos ER (sndCell c d) 0 ∅ 0)]
  unfold depPre
  rw [bigSep_sep']
  iintro ⟨⟨⟨⟨Hs0, Hs⟩, Hr0, Hc, Hat, H0, Hr, Hls, Hrec, HO⟩, Ha⟩, Hm⟩
  isplitl [Hs0 Hr0 Hat H0 Hr Hls Ha Hm]
  · isplitl [Hs0]; · iexact Hs0
    isplitl [Hr0]; · iexact Hr0
    isplitl [Hat]; · iexact Hat
    isplitl [H0]; · iexact H0
    isplitl [Hr]; · iexact Hr
    isplitl [Hls]; · iexact Hls
    isplitl [Ha] <;> iassumption
  isplitl [Hrec]; · iexact Hrec
  isplitr [HO]
  · isplitl [Hc] <;> iassumption
  iexact HO

/-! ## The cells close -/

/-- Every counter of device `c`'s cells at zero. -/
def semsZero : sProp 𝕄 :=
  iprop(semVal (barCell c) 0 ∗ (bigSep Finset.univ fun d => semVal (sndCell c d) 0) ∗ bigSep Finset.univ fun d => semVal (rcvCell c d) 0)

/-- A send cell with no duties left closes, its counter at zero. -/
theorem close_snd (d : Fin 16) (R : ℕ) (hR : ∀ r, R ≤ r → (Rd m ρ).duties (sndCell c d) r = ∅) :
    iprop(records m ρ K ∗ atPos ER (sndCell c d) R ∅ 0) ⊢ iprop(|={Set.univ}[Idealize.ShloMosaic.frame]=> semVal (sndCell c d) 0) := by
  iintro ⟨#Hrec, Hat⟩
  iapply (Rounds.cell_close ER (Rd m ρ) (Set.mem_univ (K (c, .inr (.inl d)))) (fun h => h) (R := R) hR)
  isplitr; · iapply (inv_of m ρ K (c, .inr (.inl d))); iexact Hrec
  iexact Hat
/-- A receive cell with no duties left closes, its counter at zero. -/
theorem close_rcv (d : Fin 16) (R : ℕ) (hR : ∀ r, R ≤ r → (Rd m ρ).duties (rcvCell c d) r = ∅) :
    iprop(records m ρ K ∗ atPos ER (rcvCell c d) R ∅ 0) ⊢ iprop(|={Set.univ}[Idealize.ShloMosaic.frame]=> semVal (rcvCell c d) 0) := by
  iintro ⟨#Hrec, Hat⟩
  iapply (Rounds.cell_close ER (Rd m ρ) (Set.mem_univ (K (c, .inr (.inr d)))) (fun h => h) (R := R) hR)
  isplitr; · iapply (inv_of m ρ K (c, .inr (.inr d))); iexact Hrec
  iexact Hat
/-- The barrier cell, after its round, closes with its counter at zero. -/
theorem close_bar :
    iprop(records m ρ K ∗ atPos ER (barCell c) (0 + 1) ∅ 0) ⊢ iprop(|={Set.univ}[Idealize.ShloMosaic.frame]=> semVal (barCell c) 0) := by
  iintro ⟨#Hrec, Hat⟩
  iapply (Rounds.cell_close ER (Rd m ρ) (Set.mem_univ (K (c, .inl ()))) (fun h => h) (R := 0 + 1) (duties_later m ρ (barCell c)))
  isplitr; · iapply (inv_of m ρ K (c, .inl ())); iexact Hrec
  iexact Hat

/-- Closing a family of cells at once. -/
theorem close_all {P G : Fin 16 → sProp 𝕄} {S : sProp 𝕄} [BI.Persistent S] (s : Finset (Fin 16))
    (h : ∀ d ∈ s, iprop(S ∗ P d) ⊢ iprop(|={Set.univ}[Idealize.ShloMosaic.frame]=> G d)) :
    iprop(S ∗ bigSep s P) ⊢ iprop(|={Set.univ}[Idealize.ShloMosaic.frame]=> bigSep s G) := by
  refine BIBase.Entails.trans ?_ (bigSep_fupd s G)
  induction s using Finset.induction_on with
  | empty => rw [bigSep_empty, bigSep_empty]; iintro ⟨-, H⟩; iexact H
  | insert i s hi ih =>
    rw [show bigSep (insert i s) P = iprop(P i ∗ bigSep s P) from bigSep_insert hi,
      show bigSep (insert i s) (fun d => iprop(|={Set.univ}[Idealize.ShloMosaic.frame]=> G d))
        = iprop((|={Set.univ}[Idealize.ShloMosaic.frame]=> G i) ∗ bigSep s fun d => iprop(|={Set.univ}[Idealize.ShloMosaic.frame]=> G d)) from bigSep_insert hi]
    iintro ⟨#HS, H, Hs⟩
    isplitl [H]
    · iapply (h i (Finset.mem_insert_self _ _)); isplitr; · iexact HS
      iexact H
    · iapply (ih fun d hd => h d (Finset.mem_insert_of_mem hd)); isplitr; · iexact HS
      iexact Hs

/-- After the last wait: the whole communication buffer comes back and every counter is at zero. -/
theorem to_end :
    iprop(own5 m ρ c o ∗ depSt m ρ K c 16)
      ⊢ iprop(|={Set.univ}[Idealize.ShloMosaic.frame]=> (scrPts c (commFull m ρ c) ∗ semsZero c ∗ memSt m ρ c o ∗ owesAny c 0)) := by
  unfold own5 depSt semsZero
  rw [stage_end, scr_eq, univ_offs (fun d => bandPts c d fullShare (commFull m ρ c)), bigSep_congr (s := offs) (fun d _ => band_toks c d (commFull m ρ c)),
    band_toks, bigSep_sep', univ_offs (fun j => bandPts c 0 (lent j) (commFull m ρ c)), univ_offs (fun d => semVal (sndCell c d) 0),
    univ_offs (fun d => semVal (rcvCell c d) 0)]
  unfold allPts depPost
  rw [bands_eq, univ_offs (fun d => bandPts c d kept (commFull m ρ c)), bigSep_sep']
  iintro ⟨⟨Hs0, Hr0, Hat, H0, Hr, Hls, ⟨Hk0, Hk⟩, Hm⟩, #Hrec, ⟨Hs, Hl⟩, HO⟩
  imod (close_snd m ρ K c 0 0 (duties_snd0 m ρ c)) $$ [Hs0] with Hs0
  · isplitr; · iexact Hrec
    iexact Hs0
  imod (close_rcv m ρ K c 0 0 (duties_rcv0 m ρ c)) $$ [Hr0] with Hr0
  · isplitr; · iexact Hrec
    iexact Hr0
  imod (close_bar m ρ K c) $$ [Hat] with Hat
  · isplitr; · iexact Hrec
    iexact Hat
  imod (close_all (S := records m ρ K) (P := fun d => atPos ER (sndCell c d) (0 + 1) ∅ 0) (G := fun d => semVal (sndCell c d) 0) offs
    fun d _ => close_snd m ρ K c d (0 + 1) (duties_later m ρ (sndCell c d))) $$ [Hs] with Hs
  · isplitr; · iexact Hrec
    iexact Hs
  imod (close_all (S := records m ρ K) (P := fun d => atPos ER (rcvCell c d) (0 + 1) ∅ 0) (G := fun d => semVal (rcvCell c d) 0) offs
    fun d _ => close_rcv m ρ K c d (0 + 1) (duties_later m ρ (rcvCell c d))) $$ [Hr] with Hr
  · isplitr; · iexact Hrec
    iexact Hr
  imodintro
  isplitl [Hk0 H0 Hl Hk Hls]
  · isplitl [Hk0 H0 Hl]
    · isplitl [Hk0]; · iexact Hk0
      isplitl [H0] <;> iassumption
    isplitl [Hk] <;> iassumption
  isplitl [Hat Hs0 Hs Hr0 Hr]
  · isplitl [Hat]; · iexact Hat
    isplitl [Hs0 Hs]
    · isplitl [Hs0] <;> iassumption
    isplitl [Hr0] <;> iassumption
  isplitl [Hm] <;> iassumption

/-! ## The own block as stored -/

/-- After the four stores the own band holds the device's block. -/
theorem own_block :
    (bandPts c 0 fullShare (putRows 3 (blk m ρ c 3) (putRows 2 (blk m ρ c 2) (putRows 1 (blk m ρ c 1) (putRows 0 (blk m ρ c 0) f)))) : sProp 𝕄)
      = bandPts c 0 fullShare (commFull m ρ c) := by
  have out : ∀ (b : Fin 4) (w : FVec F S12x512 .bf16) (g : (cc0_scratch0 : Ref sig .tc).ty.Contents (Elt F)) (i : S768x512.Idx),
      ¬ (12 * b.val ≤ (i 0).val ∧ (i 0).val < 12 * b.val + 12) → putRows b w g i = g i := by
    intro b w g i h
    unfold putRows
    refine View.write_of_not_mem _ _ _ fun hi => h ?_
    rw [View.setOn_univ] at hi
    have hi' : i ∈ (rowsR b).set := by
      rw [← View.set_slice_whole cc0_scratch0 (rowsR b)]; exact hi
    exact (Rect.mem_set_unit.mp hi') 0
  have inn : ∀ (b : Fin 4) (g : (cc0_scratch0 : Ref sig .tc).ty.Contents (Elt F)) (i : S768x512.Idx),
      (12 * b.val ≤ (i 0).val ∧ (i 0).val < 12 * b.val + 12) → putRows b (blk m ρ c b) g i = commFull m ρ c i := by
    intro b g i h
    have hi' : i ∈ (rM.access (rowsR b)).set := by
      have : i ∈ (rowsR b).set := Rect.mem_set_unit.mpr fun a => by
        match a with
        | 0 => exact h
        | 1 => exact ⟨Nat.zero_le _, by show (i 1).val < 0 + 512; have : (i 1).val < 512 := (i 1).isLt; omega⟩
      rw [← View.set_slice_whole cc0_scratch0 (rowsR b)] at this; exact this
    rw [View.set, Finset.mem_map] at hi'
    obtain ⟨j, -, rfl⟩ := hi'
    unfold putRows
    rw [View.write_emb_of_mem _ _ (Finset.mem_univ j)]
    have e0 : ((rM.access (rowsR b)).emb j 0).val = 12 * b.val + (j 0).val := by
      show 12 * b.val + 1 * (j 0).val = _; omega
    have e1 : ((rM.access (rowsR b)).emb j 1).val = (j 1).val := by
      show 0 + 1 * (j 1).val = _; omega
    have hj : (j 0).val < 12 := (j 0).isLt
    show blk m ρ c b j = commFull m ρ c ((rM.access (rowsR b)).emb j)
    unfold commFull
    have hs : ∀ (a a' : Fin 16) (e e' : Fin 4) (x y : S12x512.Idx), a = a' → e = e' → x = y → blk m ρ a e x = blk m ρ a' e' y := by
      rintro _ _ _ _ _ _ rfl rfl rfl; rfl
    refine hs _ _ _ _ _ _ ?_ (Fin.ext ?_) (funext fun a => ?_)
    · rw [show (⟨((rM.access (rowsR b)).emb j 0).val / 48, by have : ((rM.access (rowsR b)).emb j 0).val < 768 := ((rM.access (rowsR b)).emb j 0).isLt; omega⟩ : Fin 16) = 0 from
        Fin.ext (by show ((rM.access (rowsR b)).emb j 0).val / 48 = 0; rw [e0]; omega)]
      exact (by decide : ∀ c : Fin 16, c = c - 0) c
    · show b.val = ((rM.access (rowsR b)).emb j 0).val % 48 / 12
      rw [e0]; omega
    · match a with
      | 0 => exact Fin.ext (by show (j 0).val = ((rM.access (rowsR b)).emb j 0).val % 12; rw [e0]; omega)
      | 1 => exact Fin.ext (by show (j 1).val = ((rM.access (rowsR b)).emb j 1).val; rw [e1])
  refine bandPts_congr fun i hi => ?_
  rw [mem_bandSet] at hi
  simp only [Fin.val_zero] at hi
  by_cases h3 : 36 ≤ (i 0).val
  · exact inn 3 _ i ⟨h3, by omega⟩
  rw [out 3 _ _ i (fun h => h3 h.1)]
  by_cases h2 : 24 ≤ (i 0).val
  · exact inn 2 _ i ⟨h2, by show (i 0).val < 36; omega⟩
  rw [out 2 _ _ i (fun h => h2 h.1)]
  by_cases h1 : 12 ≤ (i 0).val
  · exact inn 1 _ i ⟨h1, by show (i 0).val < 24; omega⟩
  rw [out 1 _ _ i (fun h => h1 h.1)]
  exact inn 0 _ i ⟨by show 0 ≤ _; omega, by show (i 0).val < 12; omega⟩

end Cert.Moe

end
-- ==== Proof.Body.lean ====
/-
# The body of the kernel on a symbolic device

One pass through the printed body: its parts unfold one after the other, and each effect is one application of the step
theorems. The body's results: the communication buffer holds `commFull`, the result `outFull`, and every counter is at zero.
-/
module

public import proofs.«01_k».proof.Proof.Phases

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × CK → ℕ) (c : Dev nD)
variable (o : (cc0_stg3_0 : Ref sig .tc).ty.Contents (Elt F)) (f : (cc0_scratch0 : Ref sig .tc).ty.Contents (Elt F))

/-- The scatter one-hot of device `c`. -/
def scat : FVec F S1024x768 .bf16 :=
  k0_pay16 (F := F) (myI c) (idsW m ρ c) (rankW m ρ c) (k0_pay14 (idsW m ρ c)) (k0_pay15 (idsW m ρ c))
/-- The result of device `c`. -/
def outFull : (cc0_stg3_0 : Ref sig .tc).ty.Contents (Elt F) := k0_pay17 (scat m ρ c) (commFull m ρ c)

/-- The body run from device `c`'s holdings. -/
theorem sound :
    iprop(records m ρ K ∗ held c ∗ barPre c ∗ scrPts c f ∗ memSt m ρ c o ∗ owesAny c (O₀ c))
      ⊢ runs c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) cc0_scratch1 cc0_scratch2)
        (fun _ => iprop(scrPts c (commFull m ρ c) ∗ semsZero c ∗ memSt m ρ c (outFull m ρ c) ∗ owesAny c 0)) := by
  refine BIBase.Entails.trans (to_signals m ρ K c o f) ?_
  rw [cc0_body_eq_skeleton]; unfold cc0_body_skel
  rw [k0_part1_eq_skeleton]; unfold k0_part1_skel; simp only [semSignalWord, semWaitWord, Prog.lift, Prog.bind_op, Prog.bind_ret, Prog.pure_eq_ret, wp_deviceId]
  refine cut_sig m ρ K c 1 (by decide) (dev_eq 1 (by decide +kernel) c) rfl rfl ?_
  refine cut_sig m ρ K c 2 (by decide) (dev_eq 2 (by decide +kernel) c) rfl rfl ?_
  refine cut_sig m ρ K c 3 (by decide) (dev_eq 3 (by decide +kernel) c) rfl rfl ?_
  refine cut_sig m ρ K c 4 (by decide) (dev_eq 4 (by decide +kernel) c) rfl rfl ?_
  refine cut_sig m ρ K c 5 (by decide) (dev_eq 5 (by decide +kernel) c) rfl rfl ?_
  rw [k0_part2_eq_skeleton]; unfold k0_part2_skel; simp only [semSignalWord, semWaitWord, Prog.lift, Prog.bind_op, Prog.bind_ret, Prog.pure_eq_ret, wp_deviceId]
  refine cut_sig m ρ K c 6 (by decide) (dev_eq 6 (by decide +kernel) c) rfl rfl ?_
  refine cut_sig m ρ K c 7 (by decide) (dev_eq 7 (by decide +kernel) c) rfl rfl ?_
  refine cut_sig m ρ K c 8 (by decide) (dev_eq 8 (by decide +kernel) c) rfl rfl ?_
  refine cut_sig m ρ K c 9 (by decide) (dev_eq 9 (by decide +kernel) c) rfl rfl ?_
  refine cut_sig m ρ K c 10 (by decide) (dev_eq 10 (by decide +kernel) c) rfl rfl ?_
  refine cut_sig m ρ K c 11 (by decide) (dev_eq 11 (by decide +kernel) c) rfl rfl ?_
  rw [k0_part3_eq_skeleton]; unfold k0_part3_skel; simp only [semSignalWord, semWaitWord, Prog.lift, Prog.bind_op, Prog.bind_ret, Prog.pure_eq_ret, wp_deviceId]
  refine cut_sig m ρ K c 12 (by decide) (dev_eq 12 (by decide +kernel) c) rfl rfl ?_
  refine cut_sig m ρ K c 13 (by decide) (dev_eq 13 (by decide +kernel) c) rfl rfl ?_
  refine cut_sig m ρ K c 14 (by decide) (dev_eq 14 (by decide +kernel) c) rfl rfl ?_
  refine cut_sig m ρ K c 15 (by decide) (dev_eq 15 (by decide +kernel) c) rfl rfl ?_
  refine cut_bar m ρ K c rfl rfl ?_
  refine BIBase.Entails.trans (to_compute m ρ K c o f) ?_
  refine cut_i m ρ c ?_
  rw [k0_part4_eq_skeleton]; unfold k0_part4_skel; simp only [semSignalWord, semWaitWord, Prog.lift, Prog.bind_op, Prog.bind_ret, Prog.pure_eq_ret, wp_deviceId]
  rw [k0_part5_eq_skeleton]; unfold k0_part5_skel; simp only [semSignalWord, semWaitWord, Prog.lift, Prog.bind_op, Prog.bind_ret, Prog.pure_eq_ret, wp_deviceId]
  refine cut_x m ρ c ?_
  refine cut_w m ρ c ?_
  refine cut_rload c 0 fun _ => ?_
  refine cut_rstore c 0 ?_
  refine cut_w m ρ c ?_
  refine cut_rload c 1 fun _ => ?_
  refine cut_rstore c 1 ?_
  refine cut_w m ρ c ?_
  refine cut_rload c 2 fun _ => ?_
  rw [k0_part6_eq_skeleton]; unfold k0_part6_skel; simp only [semSignalWord, semWaitWord, Prog.lift, Prog.bind_op, Prog.bind_ret, Prog.pure_eq_ret, wp_deviceId]
  refine cut_rstore c 2 ?_
  refine cut_w m ρ c ?_
  refine cut_rload c 3 fun _ => ?_
  refine cut_rstore c 3 ?_
  refine BIBase.Entails.trans (sep_mono_left (sep_mono_right (Entails.of_eq (own_block m ρ c f)))) ?_
  refine BIBase.Entails.trans (to_copies m ρ K c o) ?_
  refine cut_snd m ρ K c 1 (by decide) (dev_eq 1 (by decide +kernel) c) rfl rfl rfl rfl ?_
  refine cut_snd m ρ K c 2 (by decide) (dev_eq 2 (by decide +kernel) c) rfl rfl rfl rfl ?_
  rw [k0_part7_eq_skeleton]; unfold k0_part7_skel; simp only [semSignalWord, semWaitWord, Prog.lift, Prog.bind_op, Prog.bind_ret, Prog.pure_eq_ret, wp_deviceId]
  refine cut_snd m ρ K c 3 (by decide) (dev_eq 3 (by decide +kernel) c) rfl rfl rfl rfl ?_
  refine cut_snd m ρ K c 4 (by decide) (dev_eq 4 (by decide +kernel) c) rfl rfl rfl rfl ?_
  rw [k0_part8_eq_skeleton]; unfold k0_part8_skel; simp only [semSignalWord, semWaitWord, Prog.lift, Prog.bind_op, Prog.bind_ret, Prog.pure_eq_ret, wp_deviceId]
  refine cut_snd m ρ K c 5 (by decide) (dev_eq 5 (by decide +kernel) c) rfl rfl rfl rfl ?_
  refine cut_snd m ρ K c 6 (by decide) (dev_eq 6 (by decide +kernel) c) rfl rfl rfl rfl ?_
  refine cut_snd m ρ K c 7 (by decide) (dev_eq 7 (by decide +kernel) c) rfl rfl rfl rfl ?_
  rw [k0_part9_eq_skeleton]; unfold k0_part9_skel; simp only [semSignalWord, semWaitWord, Prog.lift, Prog.bind_op, Prog.bind_ret, Prog.pure_eq_ret, wp_deviceId]
  refine cut_snd m ρ K c 8 (by decide) (dev_eq 8 (by decide +kernel) c) rfl rfl rfl rfl ?_
  refine cut_snd m ρ K c 9 (by decide) (dev_eq 9 (by decide +kernel) c) rfl rfl rfl rfl ?_
  refine cut_snd m ρ K c 10 (by decide) (dev_eq 10 (by decide +kernel) c) rfl rfl rfl rfl ?_
  rw [k0_part10_eq_skeleton]; unfold k0_part10_skel; simp only [semSignalWord, semWaitWord, Prog.lift, Prog.bind_op, Prog.bind_ret, Prog.pure_eq_ret, wp_deviceId]
  refine cut_snd m ρ K c 11 (by decide) (dev_eq 11 (by decide +kernel) c) rfl rfl rfl rfl ?_
  refine cut_snd m ρ K c 12 (by decide) (dev_eq 12 (by decide +kernel) c) rfl rfl rfl rfl ?_
  refine cut_snd m ρ K c 13 (by decide) (dev_eq 13 (by decide +kernel) c) rfl rfl rfl rfl ?_
  rw [k0_part11_eq_skeleton]; unfold k0_part11_skel; simp only [semSignalWord, semWaitWord, Prog.lift, Prog.bind_op, Prog.bind_ret, Prog.pure_eq_ret, wp_deviceId]
  refine cut_snd m ρ K c 14 (by decide) (dev_eq 14 (by decide +kernel) c) rfl rfl rfl rfl ?_
  refine cut_snd m ρ K c 15 (by decide) (dev_eq 15 (by decide +kernel) c) rfl rfl rfl rfl ?_
  refine BIBase.Entails.trans (to_arrivals m ρ K c o) ?_
  rw [k0_part12_eq_skeleton]; unfold k0_part12_skel; simp only [semSignalWord, semWaitWord, Prog.lift, Prog.bind_op, Prog.bind_ret, Prog.pure_eq_ret, wp_deviceId]
  refine cut_rcv m ρ K c 1 (by decide) rfl rfl ?_
  rw [k0_part13_eq_skeleton]; unfold k0_part13_skel; simp only [semSignalWord, semWaitWord, Prog.lift, Prog.bind_op, Prog.bind_ret, Prog.pure_eq_ret, wp_deviceId]
  refine cut_rcv m ρ K c 2 (by decide) rfl rfl ?_
  refine cut_rcv m ρ K c 3 (by decide) rfl rfl ?_
  refine cut_rcv m ρ K c 4 (by decide) rfl rfl ?_
  refine cut_rcv m ρ K c 5 (by decide) rfl rfl ?_
  rw [k0_part14_eq_skeleton]; unfold k0_part14_skel; simp only [semSignalWord, semWaitWord, Prog.lift, Prog.bind_op, Prog.bind_ret, Prog.pure_eq_ret, wp_deviceId]
  refine cut_rcv m ρ K c 6 (by decide) rfl rfl ?_
  refine cut_rcv m ρ K c 7 (by decide) rfl rfl ?_
  refine cut_rcv m ρ K c 8 (by decide) rfl rfl ?_
  refine cut_rcv m ρ K c 9 (by decide) rfl rfl ?_
  rw [k0_part15_eq_skeleton]; unfold k0_part15_skel; simp only [semSignalWord, semWaitWord, Prog.lift, Prog.bind_op, Prog.bind_ret, Prog.pure_eq_ret, wp_deviceId]
  refine cut_rcv m ρ K c 10 (by decide) rfl rfl ?_
  refine cut_rcv m ρ K c 11 (by decide) rfl rfl ?_
  refine cut_rcv m ρ K c 12 (by decide) rfl rfl ?_
  refine cut_rcv m ρ K c 13 (by decide) rfl rfl ?_
  rw [k0_part16_eq_skeleton]; unfold k0_part16_skel; simp only [semSignalWord, semWaitWord, Prog.lift, Prog.bind_op, Prog.bind_ret, Prog.pure_eq_ret, wp_deviceId]
  refine cut_rcv m ρ K c 14 (by decide) rfl rfl ?_
  refine cut_rcv m ρ K c 15 (by decide) rfl rfl ?_
  refine BIBase.Entails.trans (to_product m ρ K c o) ?_
  refine cut_all m ρ c ?_
  refine cut_oload m ρ c fun _ => ?_
  refine cut_ostore m ρ c ?_
  refine BIBase.Entails.trans (to_departures m ρ K c _) ?_
  refine cut_dep m ρ K c 1 (by decide) rfl rfl ?_
  refine cut_dep m ρ K c 2 (by decide) rfl rfl ?_
  rw [k0_part17_eq_skeleton]; unfold k0_part17_skel; simp only [semSignalWord, semWaitWord, Prog.lift, Prog.bind_op, Prog.bind_ret, Prog.pure_eq_ret, wp_deviceId]
  refine cut_dep m ρ K c 3 (by decide) rfl rfl ?_
  refine cut_dep m ρ K c 4 (by decide) rfl rfl ?_
  refine cut_dep m ρ K c 5 (by decide) rfl rfl ?_
  refine cut_dep m ρ K c 6 (by decide) rfl rfl ?_
  refine cut_dep m ρ K c 7 (by decide) rfl rfl ?_
  rw [k0_part18_eq_skeleton]; unfold k0_part18_skel; simp only [semSignalWord, semWaitWord, Prog.lift, Prog.bind_op, Prog.bind_ret, Prog.pure_eq_ret, wp_deviceId]
  refine cut_dep m ρ K c 8 (by decide) rfl rfl ?_
  refine cut_dep m ρ K c 9 (by decide) rfl rfl ?_
  refine cut_dep m ρ K c 10 (by decide) rfl rfl ?_
  refine cut_dep m ρ K c 11 (by decide) rfl rfl ?_
  refine cut_dep m ρ K c 12 (by decide) rfl rfl ?_
  refine cut_dep m ρ K c 13 (by decide) rfl rfl ?_
  refine cut_dep m ρ K c 14 (by decide) rfl rfl ?_
  refine cut_dep m ρ K c 15 (by decide) rfl rfl ?_
  unfold runs
  rw [wp_ret]
  exact to_end m ρ K c _

end Cert.Moe

end
-- ==== Proof.Data.lean ====
/-
# The pipeline's data and the body's obligation

What each staged window holds before and after the one grid point, what a device has at the body's start and end, and that
the body, run from the first, gives the second.
-/
module

public import proofs.«01_k».proof.Proof.Body
public import proofs.«01_k».proof.Proof.Gen.KernelIdeal.Points

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## What a device starts from and ends with -/

/-- Device `c`'s ghost state: the records at some names, its positions and its tokens. -/
def dealt (c : Dev nD) : sProp 𝕄 :=
  iprop(∃ K, records m ρ K ∗ (atPos ER (barCell c) 0 ∅ 0 ∗ (bigSep Finset.univ fun d => atPos ER (sndCell c d) 0 ∅ 0)
    ∗ bigSep Finset.univ fun d => atPos ER (rcvCell c d) 0 ∅ 0) ∗ copyToks c ∗ barToks c)

/-- That, its credit (fifteen units of its barrier, a block at each receive cell) and the levels. -/
def start (c : Dev nD) : sProp 𝕄 :=
  iprop(dealt m ρ c ∗ cred (tallyAt (barCell c) () 15) ∗ (bigSep offs fun d => cred (tallyAt (rcvCell c d) () N)) ∗ levAts L lv)

/-- What device `c` holds when the body starts: its start and a communication buffer of any contents. -/
def Φ₀ (c : Dev nD) : sProp 𝕄 := iprop(start m ρ c ∗ ∃ f, scrPts c f)
/-- What it holds when the body ends: the filled communication buffer and counters at zero. -/
def Φ₁ (c : Dev nD) : sProp 𝕄 := iprop(scrPts c (commFull m ρ c) ∗ semsZero c)

/-- The pipeline's data: the arrays at launch, what the body leaves in each staged window, what is held before and after, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => wstg m ρ c
    | ⟨3, _⟩ => outFull m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The obligation -/

/-- A whole buffer, at contents equal to `X`. -/
abbrev held_at (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

omit [FloatOps F] in
/-- Owning a whole view is holding its buffer. -/
theorem owns_whole (c : Dev nD) (b : Ref sig .tc) (X : b.ty.Contents (Elt F)) :
    (owns (c : Thread nD τ) (Memref.whole b) fullShare X : sProp 𝕄) = held_at c b X := by
  unfold owns
  simp only [Memref.view_whole, View.read_whole, View.set_whole]

/-- Everything at the body's start, the staged windows included. -/
def before (c : Dev nD) : sProp 𝕄 :=
  iprop(Φ₀ m ρ c ∗ (dats m ρ 0 c).owesAt () t0_0.castSucc
    ∗ (∃ d, held_at c cc0_stg0_0 ((dats m ρ 0 c).before (0 : Fin 4) t0_0 d))
    ∗ (∃ d, held_at c cc0_stg1_0 ((dats m ρ 0 c).before (1 : Fin 4) t0_0 d))
    ∗ (∃ d, held_at c cc0_stg2_0 ((dats m ρ 0 c).before (2 : Fin 4) t0_0 d))
    ∗ (∃ d, held_at c cc0_stg3_0 ((dats m ρ 0 c).before (3 : Fin 4) t0_0 d)))

/-- Everything at the body's end, the result's window at `outFull`. -/
def afterwards (c : Dev nD) : sProp 𝕄 :=
  iprop(Φ₁ m ρ c ∗ (dats m ρ 0 c).owesAt () t0_0.succ
    ∗ held_at c cc0_stg0_0 (xstg m ρ c) ∗ held_at c cc0_stg1_0 (istg m ρ c) ∗ held_at c cc0_stg2_0 (wstg m ρ c)
    ∗ held_at c cc0_stg3_0 (outFull m ρ c))

/-- What the body's proof ends with is what the pipeline asks for. -/
theorem after_of (c : Dev nD) :
    iprop(scrPts c (commFull m ρ c) ∗ semsZero c ∗ memSt m ρ c (outFull m ρ c) ∗ owesAny c 0) ⊢ afterwards m ρ c := by
  unfold afterwards Φ₁ memSt owesAny Dat.owesAt Pipeline.owesWithin
  rw [show (dats m ρ 0 c).owed t0_0.succ = 0 from rfl]
  iintro ⟨Hs, Hz, ⟨Hx, Hi, Hw, Ho⟩, ⟨%W, HO⟩⟩
  isplitl [Hs Hz]
  · isplitl [Hs] <;> iassumption
  isplitl [HO]
  · iexists W
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Ho

/-- The body, run from its start, ends with `afterwards`. -/
theorem body_at (c : Dev nD) :
    before m ρ c ⊢ runs c (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) cc0_scratch1 cc0_scratch2) (fun _ => afterwards m ρ c) := by
  refine BIBase.Entails.trans ?_ (wp_mono _ _ _ fun _ => after_of m ρ c)
  unfold before Φ₀ start dealt Dat.owesAt Pipeline.owesWithin
  iintro ⟨⟨⟨⟨%K, #Hrec, ⟨Hb, Hs, Hr⟩, Hct, Hbt⟩, HcB, HcR, Hlev⟩, ⟨%f, Hscr⟩⟩, ⟨%W, %hW, HO⟩,
    ⟨%d0, %g0, %h0, Hx⟩, ⟨%d1, %g1, %h1, Hi⟩, ⟨%d2, %g2, %h2, Hw⟩, ⟨%d3, %g3, %h3, Ho⟩⟩
  have e0 : g0 = xstg m ρ c := by rw [h0]; unfold Dat.before; rw [if_pos (fetch0_0 t0_0)]; rfl
  have e1 : g1 = istg m ρ c := by rw [h1]; unfold Dat.before; rw [if_pos (fetch0_1 t0_0)]; rfl
  have e2 : g2 = wstg m ρ c := by rw [h2]; unfold Dat.before; rw [if_pos (fetch0_2 t0_0)]; rfl
  subst e0; subst e1; subst e2
  rw [show (dats m ρ 0 c).owed t0_0.castSucc = O₀ c from rfl]
  iapply (sound m ρ K c g3 f)
  unfold held posAll barPre memSt owesAny
  isplitr; · iexact Hrec
  isplitl [Hs Hr HcR Hct Hbt]
  · isplitl [Hs Hr HcR]
    · isplitl [Hs]; · iexact Hs
      isplitl [Hr] <;> iassumption
    isplitl [Hct] <;> iassumption
  isplitl [HcB Hb Hlev]
  · isplitl [HcB]; · iexact HcB
    isplitl [Hb] <;> iassumption
  isplitl [Hscr]; · iexact Hscr
  isplitr [HO]
  · isplitl [Hx]; · iexact Hx
    isplitl [Hi]; · iexact Hi
    isplitl [Hw]; · iexact Hw
    iexact Ho
  iexists W; iexact HO

set_option maxRecDepth 32000 in
/-- The same in the form the launch asks for. -/
theorem body_obligation (c : Dev nD) : BodyObligation (dats (F := F) m ρ 0 c) (defs₀ (F := F)) 𝒱₀ () Set.univ := fun t => by
  rw [show t = t0_0 from fin_N0 t, bigSep_W0, bigSep_W0]
  simp only [owns_whole]
  exact body_at m ρ c

end Cert.Moe

end
-- ==== Proof.Deal.lean ====
/-
# The launch deals the ghost state

The launch mints every cell's state and every duty's token, allocates the cells' invariants, and moves each token from
the cell's device to the device that pays the duty. The credit at launch is what the devices owe each cell.
-/
module

public import proofs.«01_k».proof.Proof.Data

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## Cells and tokens -/

/-- Receive cells differ by device and offset. -/
theorem rcv_eq {a b : Dev nD} {d e : Fin 16} (h : rcvCell a d = rcvCell b e) : a = b ∧ d = e := by
  refine ⟨congrArg (fun g : GSem nD τ sig => g.1.1) h, ?_⟩
  have h2 := congrArg (fun g : GSem nD τ sig => match g.2 with | .reg _ => 0 | .dma q => q.val) h
  exact Fin.ext (Nat.add_left_cancel (n := 20) h2)
/-- Barrier cells differ by device. -/
theorem bar_eq {a b : Dev nD} (h : barCell a = barCell b) : a = b := congrArg (fun g : GSem nD τ sig => g.1.1) h
/-- No barrier cell is a receive cell. -/
theorem bar_ne_rcv (a b : Dev nD) (d : Fin 16) : barCell a ≠ rcvCell b d := fun h => by cases congrArg Prod.snd h

/-- A device's cells are different semaphores. -/
theorem csem_injective : Function.Injective csem := by decide

/-- All cells of all devices are different. -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells of all devices. -/
def allCells : Finset (GSem nD τ sig) := Finset.univ.map ⟨kcell, kcell_injective⟩

/-- Which duty token of a device's cells: barrier duty `d`, the duty of send cell `d`, that of receive cell `d`. -/
abbrev TK : Type := Fin 16 ⊕ (Fin 16 ⊕ Fin 16)
/-- The semaphore and the duty of a token. -/
def tokPart : TK → SemLoc sig × Fin 16
  | .inl d => (.reg barS, d)
  | .inr (.inl d) => (.dma (sndS d), 0)
  | .inr (.inr d) => (.dma (rcvS d), 0)
/-- A device's tokens are different. -/
theorem tokPart_injective : Function.Injective tokPart := by decide
/-- The token of device `p.1` named `p.2`, in round 0. -/
def tokOf (p : Dev nD × TK) : GSem nD τ sig × ℕ × Fin 16 := (((p.1 : Thread nD τ), (tokPart p.2).1), 0, (tokPart p.2).2)
/-- All tokens of all devices are different. -/
theorem tokOf_injective : Function.Injective tokOf := by
  rintro ⟨c, k⟩ ⟨c', k'⟩ h
  have h1 : c = c' := congrArg (fun x : GSem nD τ sig × ℕ × Fin 16 => x.1.1.1) h
  have h2 : k = k' := tokPart_injective (congrArg (fun x : GSem nD τ sig × ℕ × Fin 16 => (x.1.2, x.2.2)) h)
  rw [h1, h2]
/-- All tokens of all devices. -/
def allToks : Finset (GSem nD τ sig × ℕ × Fin 16) := Finset.univ.map ⟨tokOf, tokOf_injective⟩

/-- The ghost state at launch: the pipeline's and the exchange's. -/
def u₀ : UU := (initOf (Pipeline.cells cfgs cellOf_inj) (Pipeline.launchToks cfgs cellOf_inj), initOf allCells allToks)

/-- The tokens of device `c`'s own cells. -/
def ownToks (c : Dev nD) : sProp 𝕄 :=
  iprop((bigSep Finset.univ fun d : Fin 16 => dutyTok ER (barCell c) 0 d) ∗ (bigSep Finset.univ fun d : Fin 16 => dutyTok ER (sndCell c d) 0 (0 : Fin 16))
    ∗ bigSep Finset.univ fun d : Fin 16 => dutyTok ER (rcvCell c d) 0 (0 : Fin 16))

/-- What the launch element gives device `c`. -/
def minted (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ ownToks c)

/-- A family over all cells, device by device. -/
theorem over_cells (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

/-- The tokens of all cells, device by device. -/
theorem over_toks : bigSep allToks (fun x => (dutyTok ER x.1 x.2.1 x.2.2 : sProp 𝕄)) = bigSep Finset.univ fun c : Dev nD => ownToks c := by
  unfold allToks; rw [bigSep_map, bigSep_univ_prod]
  refine bigSep_congr fun c _ => ?_
  rw [bigSep_univ_sum, bigSep_univ_sum]; rfl

/-- The exchange's launch element gives each device its minted state. -/
theorem mint : BI.own (ER (initOf allCells allToks)) ⊢ (|==> bigSep Finset.univ (minted m ρ) : sProp 𝕄) := by
  iintro H
  imod (Rounds.fund ER (Rd m ρ) allCells allToks) $$ H with ⟨Hst, Hr, Hat, Htok⟩
  imodintro
  ihave Hst' := (Entails.of_eq (over_cells (F := F) fun g => roundState ER (Rd m ρ) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold minted; simp only [bigSep_sep']
  isplitl [Hst']; · iexact Hst'
  isplitl [Hat' Hr']
  · isplitl [Hat'] <;> iassumption
  iexact Htok'

/-! ## Counters -/

/-- The kernel's own semaphores: the send cells and the receive cells. -/
def osem (k : Fin 16 ⊕ Fin 16) : SemLoc sig := csem (.inr k)
/-- The send and receive cells are the kernel's own semaphores, each once, beside the staging ones. -/
theorem ownSemFacts : Pipeline.OwnSemFacts cfg0.spec osem := by decide

/-- The counters of the kernel's own semaphores: the send cells' and the receive cells'. -/
theorem ownSems_eq (c : Dev nD) : (Pipeline.ownSems0 (Ix := Unit) (Name := ℕ) (U := UU) (Lvl := ℕ) (Val := Elt F) (τ := τ) osem c : sProp 𝕄)
    = iprop((bigSep Finset.univ fun d => semVal (sndCell c d) 0) ∗ bigSep Finset.univ fun d => semVal (rcvCell c d) 0) := by
  unfold Pipeline.ownSems0
  rw [bigSep_univ_sum]; rfl
/-- The one counter that no kernel scopes: the barrier's. -/
theorem barSem_eq (c : Dev nD) : (unscopedSems0 c : sProp 𝕄) = semVal (barCell c) 0 := by
  unfold unscopedSems0; rw [bigSep_eq_bigSepL_of_eq [SemLoc.reg barS] (by decide) (by decide)]; rfl

/-- A family over a device's cells: the barrier cell, the send cells, the receive cells. -/
theorem over_ck (Φ : CK → sProp 𝕄) : bigSep Finset.univ Φ
    = iprop(Φ (.inl ()) ∗ (bigSep Finset.univ fun d => Φ (.inr (.inl d))) ∗ bigSep Finset.univ fun d => Φ (.inr (.inr d))) := by
  rw [bigSep_univ_sum, bigSep_univ_sum, Finset.univ_unique, bigSep_singleton]; rfl

/-- Together they are the counters of all the device's cells. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems_eq, barSem_eq, over_ck]
  iintro ⟨Ho, Hb⟩
  isplitl [Hb]; · iexact Hb
  iexact Ho

/-! ## Invariants -/

/-- With its counters at zero and its minted state a device allocates the invariants of its cells. -/
theorem allocate (c : Dev nD) :
    iprop(Pipeline.ownSems0 (Ix := Unit) (Name := ℕ) (U := UU) (Lvl := ℕ) (Val := Elt F) (τ := τ) osem c ∗ unscopedSems0 c ∗ minted m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ ownToks c) := by
  unfold minted
  iintro ⟨Hos, Hus, Hst, Hat, Htok⟩
  ihave Hv := (counters (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Tokens move to their payers -/

/-- A family over devices and offsets, read at the device an offset further. -/
def moveAll : Dev nD × Fin 16 ≃ Dev nD × Fin 16 :=
  ⟨fun p => (p.1 + p.2, p.2), fun p => (p.1 - p.2, p.2), fun p => Prod.ext (add_sub16 p.1 p.2) rfl, fun p => Prod.ext (sub_add16 p.1 p.2) rfl⟩

/-- Summing over all devices, the device may be read an offset further. -/
theorem moved (Φ : Dev nD → Fin 16 → sProp 𝕄) :
    (bigSep Finset.univ fun c : Dev nD => bigSep Finset.univ fun d : Fin 16 => Φ c d)
      = bigSep Finset.univ fun c : Dev nD => bigSep Finset.univ fun d : Fin 16 => Φ (c + d) d := by
  rw [← bigSep_univ_prod (fun p : Dev nD × Fin 16 => Φ p.1 p.2), bigSep_univ_equiv moveAll, bigSep_univ_prod]; rfl

/-- A family over all offsets gives that over the offsets of the other devices. -/
theorem keep_offs (Φ : Fin 16 → sProp 𝕄) : bigSep Finset.univ Φ ⊢ bigSep offs Φ := bigSep_subset (Finset.erase_subset _ _)

/-- The tokens of the duties that device `c` pays. -/
def payToks (c : Dev nD) : sProp 𝕄 := iprop(copyToks c ∗ barToks c)

/-- The tokens of the devices' own cells, regrouped by the device that pays. -/
theorem toks_move : (bigSep Finset.univ fun c : Dev nD => (ownToks c : sProp 𝕄)) ⊢ bigSep Finset.univ fun c : Dev nD => payToks c := by
  unfold ownToks
  rw [bigSep_sep', bigSep_sep', moved (fun c d => dutyTok ER (barCell c) 0 d), moved (fun c d => dutyTok ER (rcvCell c d) 0 (0 : Fin 16)),
    ← bigSep_sep', ← bigSep_sep']
  refine bigSep_mono fun c _ => ?_
  show iprop(_ ∗ _ ∗ _) ⊢ payToks c
  unfold payToks copyToks barToks
  iintro ⟨Hb, Hs, Hr⟩
  isplitl [Hs Hr]
  · isplitl [Hs]
    · iapply (keep_offs fun d => dutyTok ER (sndCell c d) 0 (0 : Fin 16)); iexact Hs
    iapply (keep_offs fun d => dutyTok ER (rcvCell (c + d) d) 0 (0 : Fin 16)); iexact Hr
  iapply (keep_offs fun d => dutyTok ER (barCell (c + d)) 0 d); iexact Hb

/-- What stays with device `c`. -/
def kept_by (c : Dev nD) : sProp 𝕄 := iprop((bigSep Finset.univ fun k : CK => atPos ER (kcell (c, k)) 0 ∅ 0) ∗ payToks c)

/-- The records and what stays with a device are what it is dealt. -/
theorem dealt_intro (K : Dev nD × CK → ℕ) (c : Dev nD) : iprop(records m ρ K ∗ kept_by c) ⊢ dealt m ρ c := by
  unfold kept_by dealt payToks
  rw [over_ck]
  iintro ⟨Hr, Hat, Ht⟩
  iexists K
  isplitl [Hr]; · iexact Hr
  isplitl [Hat]; · iexact Hat
  iexact Ht

/-- A persistent fact serves every member of a family. -/
theorem over_with {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices allocate, with the tokens moved to their payers, is what they are dealt. -/
theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ ownToks c) : sProp 𝕄)
      ⊢ bigSep Finset.univ (dealt m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_move (F := F)) $$ Htok
  iapply (over_with (R := records m ρ K) fun c _ => dealt_intro m ρ K c)
  isplitr
  · unfold records; isplitl; · iexact HI
    iexact HR
  · unfold kept_by
    rw [bigSep_sep']
    isplitl [Hat] <;> iassumption

/-- One step for all devices: from the counters and the minted state to what each device is dealt. -/
theorem deal : (bigSep Finset.univ fun c => iprop(Pipeline.ownSems0 (Ix := Unit) (Name := ℕ) (U := UU) (Lvl := ℕ) (Val := Elt F) (τ := τ) osem c ∗ unscopedSems0 c ∗ minted m ρ c) : sProp 𝕄)
    ⊢ |={Set.univ}=> bigSep Finset.univ (dealt m ρ) :=
  ((bigSep_mono fun c _ => allocate m ρ c).trans (bigSep_fupd _ _)).trans (BI.fupd_mono (regroup m ρ))

/-! ## Credit -/

/-- A sum of tallies, read at one cell. -/
theorem sum_at (S : Finset (Fin 16)) (cell : Fin 16 → GSem nD τ sig) (k : ℕ) (g : GSem nD τ sig) :
    (∑ d ∈ S, tallyAt (cell d) () k : CellTallies nD τ sig Unit) g () = ∑ d ∈ S, if g = cell d then k else 0 := by
  rw [Finset.sum_apply, Finsupp.finset_sum_apply]
  refine Finset.sum_congr rfl fun d _ => ?_
  rw [tallyAt_apply]
  by_cases h : g = cell d
  · rw [if_pos ⟨h, rfl⟩, if_pos h]
  · rw [if_neg (fun h' => h h'.1), if_neg h]

/-- Device `a` owes the barrier of `c` one unit for the offset from `a` to `c`. -/
theorem owed_bar (a c : Dev nD) : O₀ a (barCell c) () = ∑ d ∈ offs, if a = c - d then 1 else 0 := by
  unfold O₀ owedBar owedRcv
  rw [Pi.add_apply, Finsupp.add_apply, sum_at, sum_at, filter_start, Finset.sum_eq_zero (s := offs) (f := fun d => if barCell c = rcvCell (a + d) d then N else 0)
    (fun d _ => if_neg (bar_ne_rcv c (a + d) d)), add_zero]
  refine Finset.sum_congr rfl fun d _ => ?_
  by_cases h : a = c - d
  · rw [if_pos h, h, sub_add16, if_pos rfl]
  · rw [if_neg h, if_neg (fun h' => h (by rw [bar_eq h', add_sub16]))]

/-- Device `a` owes receive cell `d` of `c` a block exactly if `c` is `d` places on. -/
theorem owed_rcv (a c : Dev nD) (d : Fin 16) (hd : d ∈ offs) : O₀ a (rcvCell c d) () = if a = c - d then N else 0 := by
  unfold O₀ owedBar owedRcv
  rw [Pi.add_apply, Finsupp.add_apply, sum_at, sum_at, filter_start, Finset.sum_eq_zero (s := offs) (f := fun e => if rcvCell c d = barCell (a + e) then 1 else 0)
    (fun e _ => if_neg (bar_ne_rcv (a + e) c d).symm), zero_add, Finset.sum_eq_single_of_mem d hd (fun e _ he => if_neg (fun h => he (rcv_eq h).2.symm))]
  by_cases h : a = c - d
  · rw [if_pos h, h, sub_add16, if_pos rfl]
  · rw [if_neg h, if_neg (fun h' => h (by rw [(rcv_eq h').1, add_sub16]))]

/-- A barrier is owed fifteen units in all. -/
theorem credit_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun a _ => owed_bar a c, Finset.sum_comm,
    Finset.sum_congr rfl fun d _ => Finset.sum_ite_eq' Finset.univ (c - d) fun _ => 1]
  simp only [Finset.mem_univ, if_true]
  decide

/-- A receive cell is owed one block in all. -/
theorem credit_rcv (c : Dev nD) (d : Fin 16) (hd : d ∈ offs) :
    tallyOn (rcvCell c d) (launchCredit (Pipeline.owing O₀) 0 (rcvCell c d)) = (tallyAt (rcvCell c d) () N : CellTallies nD τ sig Unit) := by
  unfold tallyAt; refine congrArg _ (Finsupp.ext fun u => ?_); cases u
  rw [Pipeline.launchCredit_owing, Finsupp.single_eq_same, Finset.sum_congr rfl fun a _ => owed_rcv a c d hd, Finset.sum_ite_eq' Finset.univ (c - d) fun _ => N,
    if_pos (Finset.mem_univ _)]

/-- The receive cells among the semaphores. -/
def rcvLoc : Fin 16 ↪ SemLoc sig := ⟨fun d => .dma (rcvS d), by decide⟩

/-- The launch credit of a device: fifteen units at its barrier and a block at each receive cell. -/
theorem credit (c : Dev nD) :
    (Pipeline.launchCred O₀ c : sProp 𝕄) ⊢ iprop(cred (tallyAt (barCell c) () 15) ∗ bigSep offs fun d => cred (tallyAt (rcvCell c d) () N)) := by
  unfold Pipeline.launchCred
  rw [bigSep_univ_at _ (SemLoc.reg barS), credit_bar]
  refine sep_mono_right ?_
  refine BIBase.Entails.trans (bigSep_subset (t := offs.map rcvLoc) (fun s hs => ?_)) ?_
  · obtain ⟨d, -, rfl⟩ := Finset.mem_map.mp hs
    exact Finset.mem_erase.mpr ⟨fun h => (by cases h), Finset.mem_univ _⟩
  · rw [bigSep_map]
    exact bigSep_mono fun d hd => Entails.of_eq (congrArg cred (credit_rcv c d hd))

end Cert.Moe

end
-- ==== Proof.Run.lean ====
/-
# The run

The launch theorem applied to the exchange: every fair execution ends, with each window's array at the contents the
pipeline's data say, the unused argument unchanged and every counter at zero.
-/
module

public import proofs.«01_k».proof.Proof.Deal
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The pipeline holds its windows whole. -/
theorem share_eq (c : Dev nD) (w : Fin cfg0.W) : (dats m ρ 0 c).share w = fullShare := by unfold Dat.share; split <;> rfl

/-- The argument that no window stages, untouched. -/
def spare (c : Dev nD) : sProp 𝕄 := (c : Thread nD τ).loc main_arg1 ↦{fullShare} m ((c : Thread nD τ).loc main_arg1)

/-- From what the launch gives a device to what its body starts from, the unused argument put aside. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ spare m c) := by
  rw [Pipeline.unscopedRestP_none, show (Pipeline.unscopedRest cfg0.spec c (fun b => m ((c : Thread nD τ).loc b)) : sProp 𝕄) = spare m c from unscopedRest0_eq c _]
  iintro ⟨Hsp, Hlev, Hcr, -, HG⟩
  ihave Hc := (credit (F := F) c) $$ Hcr
  icases Hc with ⟨H1, HN⟩
  imodintro
  unfold start
  isplitr [Hsp]
  · isplitl [HG]; · iexact HG
    isplitl [H1]; · iexact H1
    isplitl [HN] <;> iassumption
  · iexact Hsp

/-- With the scratch buffer that is what the pipeline holds first. -/
theorem body_start (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, Hr⟩
  isplitl [Hs] <;> iassumption

/-- What the pipeline holds last gives back the counters and the scratch buffer. -/
theorem body_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems_eq, barSem_eq]
  unfold Φ₁ semsZero scrPts
  iintro ⟨Hr, Hb, Ho⟩
  isplitl [Hb]; · iexact Hb
  isplitl [Ho]; · iexact Ho
  iexists (commFull m ρ c); iexact Hr

/-- Every staging wait is allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array at the end. -/
def finalA (c : Dev nD) (w : Fin cfg0.W) : Buf (Elt F) ((cfg0.win w).arr.view.loc (c : Thread nD τ)) := (dats m ρ 0 c).arrAt w cfg0.N

/-- The final states: each window's array at `finalA`, the argument that no window stages as it was. -/
def Final (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg1) = m ((c : Thread nD τ).loc main_arg1)

/-- The final memory agrees with the unused argument. -/
theorem spare_read (c : Dev nD) (s' : Phys nD τ sig (Elt F)) :
    iprop(SI s' ∗ spare m c) ⊢ (⌜s'.mem.mem ((c : Thread nD τ).loc main_arg1) = m ((c : Thread nD τ).loc main_arg1)⌝ : sProp 𝕄) :=
  SI_pointsTo_agree.trans (BI.pure_mono fun h => funext fun i => h i (Finset.mem_univ i))

/-- What the end of the run reads: the counters that no kernel scopes, and the spare argument. -/
theorem read_end (c : Dev nD) (s' : Phys nD τ sig (Elt F)) :
    iprop(unscopedSems0 c ∗ spare m c ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  iintro ⟨Hu, Hsp, HSI⟩
  imod (Pipeline.unscopedSems0_read (X := unscopedSems0 c) (c := c) fupd_intro s') $$ [Hu HSI] with ⟨%h1, HSI⟩
  · isplitl [Hu] <;> iassumption
  ihave %h2 := (spare_read m c s') $$ [HSI Hsp]
  · isplitl [HSI] <;> iassumption
  imodintro
  isplitr; · ipureintro; exact ⟨h1, h2⟩
  iexact HSI

set_option maxRecDepth 8000 in
/-- On sixteen devices, for any float values, from any memory with zero counters: every fair execution of @main ends in a
    final state with every counter at zero. -/
theorem run_main : θ_run defs (onTc (τ := τ) (main (F := F))) (s₀ m ρ) (fun r => Final m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := minted m ρ) (G' := dealt m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := deal m ρ)
    (hA := fun _ _ => rfl) (hpf := fun _ k => k.elim0)
    (X := start m ρ) (Y := fun c => unscopedSems0 c) (Z := spare m)
    (hX := start_intro m ρ) (hin := body_start m ρ) (hout := body_end m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => read_end m c s')
    (hQ := fun _ h hs => ⟨fun c => ⟨(h c).1, (h c).2.2.2⟩, sem_eq_zero hs fun c => (h c).2.2.1⟩)

end Cert.Moe

end
-- ==== Proof.Frames.lean ====
/-
# The frames

Each program terminates without fault, its arguments end unchanged and every semaphore counter ends at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Moe

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The staged arguments end as they began. -/
theorem finalA_in (c : Dev nD) :
    finalA m ρ c (0 : Fin 4) = m ((c : Thread nD τ).loc main_arg0) ∧ finalA m ρ c (1 : Fin 4) = m ((c : Thread nD τ).loc main_arg2)
      ∧ finalA m ρ c (2 : Fin 4) = m ((c : Thread nD τ).loc main_arg3) :=
  ⟨(dats m ρ 0 c).arrAt_in (0 : Fin 4) rfl _, (dats m ρ 0 c).arrAt_in (1 : Fin 4) rfl _, (dats m ρ 0 c).arrAt_in (2 : Fin 4) rfl _⟩

/-- From the final memory: all four arguments, staged or not, are unchanged. -/
theorem args_of {s : MemSt nD τ sig (Elt F)} (h : Final m ρ s) (c : Dev nD) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3) := by
  obtain ⟨e0, e2, e3⟩ := finalA_in m ρ c
  exact ⟨((h c).1 (0 : Fin 4)).trans e0, (h c).2, ((h c).1 (1 : Fin 4)).trans e2, ((h c).1 (2 : Fin 4)).trans e3⟩

/-- The frame, for any float values. -/
theorem frame_any : θ_run defs (onTc (τ := τ) (main (F := F))) (s₀ m ρ) (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨args_of m ρ h.1, h.2⟩) (run_main m ρ)

/-- The two programs have one text, so one table of bodies. -/
theorem bodies_eq : (Cert.Kernel.defs₀ (F := Bits)) = Cert.KernelIdeal.defs₀ (F := Bits) := by
  unfold Cert.Kernel.defs₀ Cert.KernelIdeal.defs₀
  congr 1
  funext l a
  match l, a with
  | 0, (t, s) => rfl
/-- … and one table of definitions. -/
theorem defs_eq : (Cert.Kernel.defs (F := Bits)) = Cert.KernelIdeal.defs (F := Bits) := congrArg (Pipeline.defs _) bodies_eq

/-- The kernel as printed terminates, its arguments unchanged and its counters at zero. -/
theorem frame_kernel : Cert.quiescent_Kernel := by
  intro m ρ _
  rw [defs_eq]
  exact frame_any (F := Bits) m ρ

/-- The same of the kernel over the reals. -/
theorem frame_ideal : Cert.quiescent_KernelIdeal := fun m ρ _ => frame_any m ρ

/-- The same of the reference over the reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Moe

end
-- ==== Proof.Places.lean ====
/-
# Places of the tokens

The routing is a column of 1024 expert numbers. The place of a token is its number among the tokens of its expert, from 1, in
token order. Two tokens of one expert have different places, so an expert and a place name at most one token.
-/
module

public import proofs.«01_k».proof.Proof.Proto
public import Idealize.ShloMosaic.Lib.Routing.Count
public import Idealize.ShloMosaic.Lib.Routing.BitFacts
public import Idealize.ShloMosaic.Lib.WordCmp
public import Idealize.ShloMosaic.Lib.Pointwise

@[expose] public section

noncomputable section

namespace Cert.Moe

open Cert.KernelIdeal Cert.KernelIdeal.Gen
open Idealize.ShloMosaic

/-- The expert of token `j`. -/
def expertOf (v : S1024x1.Idx → BitVec 32) (j : ℕ) : ℕ :=
  if h : j < 1024 then (v (ix2 (⟨j, h⟩ : Fin 1024) (0 : Fin 1))).toNat else 0

/-- How many of the first `n` tokens expert `e` has. -/
def load (v : S1024x1.Idx → BitVec 32) (e n : ℕ) : ℕ := Nat.count (fun j => expertOf v j = e) n

/-- The place of token `i` among the tokens of its expert, from 1. -/
def place (v : S1024x1.Idx → BitVec 32) (i : ℕ) : ℕ := load v (expertOf v i) (i + 1)

variable (v : S1024x1.Idx → BitVec 32)

/-- The routing word of a token is its expert's number. -/
theorem word_eq (j : Fin 1024) : v (ix2 j (0 : Fin 1)) = BitVec.ofNat 32 (expertOf v j.val) := by
  unfold expertOf
  rw [dif_pos j.isLt, BitVec.ofNat_toNat, BitVec.setWidth_eq]

/-- An expert's load is at most the number of tokens counted. -/
theorem load_le (e n : ℕ) : load v e n ≤ n := Nat.count_le _

/-- A token's place is one more than its expert's load before it. -/
theorem place_succ (i : ℕ) : place v i = load v (expertOf v i) i + 1 := by
  unfold place load
  rw [Nat.count_succ, if_pos rfl]

/-- Places begin at 1. -/
theorem place_pos (i : ℕ) : 0 < place v i := by rw [place_succ]; omega

/-- A place is at most the number of tokens. -/
theorem place_le (i : Fin 1024) : place v i.val ≤ 1024 := le_trans (load_le v _ _) i.isLt

/-- A later token of the same expert has a greater place. -/
theorem place_lt {i j : ℕ} (h : i < j) (he : expertOf v i = expertOf v j) : place v i < place v j := by
  rw [place_succ v j, ← he]
  unfold place
  exact Nat.lt_succ_of_le (Nat.count_monotone _ h)

/-- An expert and a place name at most one token. -/
theorem place_inj {i j : ℕ} (he : expertOf v i = expertOf v j) (hp : place v i = place v j) : i = j := by
  rcases Nat.lt_trichotomy i j with h | h | h
  · exact absurd hp (place_lt v h he).ne
  · exact h
  · exact absurd hp (place_lt v h he.symm).ne'

end Cert.Moe

end
-- ==== Proof.Reads.lean ====
/-
# Bits, counts and one-hot sums as extended reals

A comparison's bit read as a number is 1 or 0; a sum of such numbers is a count; a sum against a one-hot vector is one term;
a count read back as a word is the word of the count.
-/
module

public import proofs.«01_k».proof.Proof.Places
public import Idealize.ShloMosaic.Lib.Pointwise

@[expose] public section

noncomputable section

namespace Cert.Moe

open Idealize.ShloMosaic

/-- A bit, widened and converted, is 1 or 0. -/
theorem bit_val (b : BitVec 1) : (FloatOps.sitofp (F := Ideal) .f32 (BitVec.setWidth 32 b) : EReal) = if b = 1#1 then 1 else 0 := by
  show (((BitVec.setWidth 32 b).toInt : ℝ) : EReal) = _
  rcases (by decide +revert : b = 0#1 ∨ b = 1#1) with h | h <;> subst h <;> norm_num

/-- The bit of an equality test. -/
theorem eq_bit {w : ℕ} (x y : BitVec w) : IntOp.cmpi .eq x y = 1#1 ↔ x = y := by
  show BitVec.ofBool (x == y) = 1#1 ↔ x = y
  by_cases h : x = y
  · simp [h]
  · rw [beq_eq_false_iff_ne.2 h]; simp [h]

/-- The bit of a conjunction. -/
theorem and_bit (a b : BitVec 1) : IntOp.andi a b = 1#1 ↔ a = 1#1 ∧ b = 1#1 := by
  unfold IntOp.andi; revert a b; decide

/-- A selection by a bit that decides `p`. -/
theorem select_bit {α : Type} {b : BitVec 1} {p : Prop} [Decidable p] (h : b = 1#1 ↔ p) (x y : α) :
    Scalar.select b x y = if p then x else y := by
  by_cases hp : p
  · rw [if_pos hp, h.2 hp]; rfl
  · rw [if_neg hp]; exact if_neg fun e => hp (h.1 e)

/-- Small numbers are equal as words exactly if they are equal. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · exact fun h => h ▸ rfl

/-- The bit of a signed comparison of small numbers. -/
theorem sle_bit {a b : ℕ} (ha : a < 2 ^ 31) (hb : b < 2 ^ 31) :
    IntOp.cmpi .sle (BitVec.ofNat 32 a) (BitVec.ofNat 32 b) = 1#1 ↔ a ≤ b := by
  show BitVec.ofBool ((BitVec.ofNat 32 a).sle (BitVec.ofNat 32 b)) = 1#1 ↔ a ≤ b
  rw [Routing.sle_ofNat32 ha hb]
  by_cases h : a ≤ b <;> simp [h]

/-- The numbers at most `i` with a property, among the numbers below `n`. -/
theorem count_prefix (P : ℕ → Prop) [DecidablePred P] {i n : ℕ} (h : i < n) :
    Nat.count (fun j => j ≤ i ∧ P j) n = Nat.count P (i + 1) := by
  rw [Nat.count_eq_card_filter_range, Nat.count_eq_card_filter_range]
  congr 1
  ext j
  simp only [Finset.mem_filter, Finset.mem_range]
  constructor
  · rintro ⟨_, h1, h2⟩; exact ⟨by omega, h2⟩
  · rintro ⟨h1, h2⟩; exact ⟨by omega, by omega, h2⟩

/-- A sum of products of two indicators counts. -/
theorem sum_ind {n : ℕ} (P Q : ℕ → Prop) [DecidablePred P] [DecidablePred Q] :
    (∑ x : Fin n, (if P x.val then (1 : EReal) else 0) * (if Q x.val then (1 : EReal) else 0))
      = ((Nat.count (fun j => P j ∧ Q j) n : ℕ) : EReal) := by
  rw [← Routing.card_filter_fin n, ← Finset.sum_boole]
  refine Finset.sum_congr rfl fun x _ => ?_
  by_cases h1 : P x.val <;> by_cases h2 : Q x.val <;> simp [h1, h2]

/-- A sum against a one-hot vector. -/
theorem sum_hot {n : ℕ} (i : Fin n) (P : Fin n → Prop) [DecidablePred P] (hP : ∀ x, P x ↔ x = i) (f : Fin n → EReal) :
    (∑ x : Fin n, (if P x then (1 : EReal) else 0) * f x) = f i := by
  rw [Finset.sum_eq_single i]
  · rw [if_pos ((hP i).2 rfl), one_mul]
  · intro x _ hx
    rw [if_neg fun h => hx ((hP x).1 h), zero_mul]
  · exact fun h => absurd (Finset.mem_univ i) h

/-- A sum against the zero vector. -/
theorem sum_cold {n : ℕ} (P : Fin n → Prop) [DecidablePred P] (hP : ∀ x, ¬P x) (f : Fin n → EReal) :
    (∑ x : Fin n, (if P x then (1 : EReal) else 0) * f x) = 0 :=
  Finset.sum_eq_zero fun x _ => by rw [if_neg (hP x), zero_mul]

/-- A count read back as a word. -/
theorem count_word {n : ℕ} (h : n < 2 ^ 31) : (FloatOps.fptosi (F := Ideal) (φ := .f32) 32 ((n : ℕ) : EReal) : BitVec 32) = BitVec.ofNat 32 n := by
  have e : ((n : ℕ) : EReal) = (((n : ℕ) : ℝ) : EReal) := by norm_cast
  show Ideal.fptosi 32 _ = _
  rw [Ideal.fptosi, e, Ideal.toIntClamped_coe, if_pos (Nat.cast_nonneg n), Int.floor_natCast]
  have : max (-((2 ^ (32 - 1) : ℕ) : ℤ)) (min ((2 ^ (32 - 1) : ℕ) - 1 : ℤ) (n : ℤ)) = (n : ℤ) := by
    norm_num at h ⊢
    omega
  rw [this]
  rfl

end Cert.Moe

end
-- ==== Proof.Rank.lean ====
/-
# The kernel's places

The kernel sums, against the one-hot rows of the routing, the number of tokens up to a token that have its expert: the place
of the token. It does so with bits read as numbers, and reads the sum back as a word.
-/
module

public import proofs.«01_k».proof.Proof.Reads

@[expose] public section

noncomputable section

namespace Cert.Moe

open Cert.KernelIdeal Cert.KernelIdeal.Gen
open Idealize.ShloMosaic

variable (v : Vec Ideal S1024x1 .i32)

/-- The loaded route index of a token, as a word. -/
theorem pay1_at (i : Fin 1024) : k0_pay1 (F := Ideal) v (ix2 i (0 : Fin 1)) = BitVec.ofNat 32 (expertOf v i.val) := by
  pointwise [k0_pay1]
  exact word_eq v i

/-- A route index, read as a word, is below 2 ^ 32. -/
theorem expertOf_lt32 (j : ℕ) : expertOf v j < 2 ^ 32 := by
  unfold expertOf
  split
  · exact (v _ : BitVec 32).isLt
  · decide

/-- At a token and an expert: the token's place if the expert is its own, otherwise zero. -/
theorem pay2_at (i : Fin 1024) (e : Fin 64) :
    k0_pay2 (F := Ideal) v (ix2 i e) = (if expertOf v i.val = e.val then ((place v i.val : ℕ) : EReal) else 0) := by
  pointwise [k0_pay2]
  simp only [bit_val, eq_bit, pay1_at]
  have he : e.val < 2 ^ 32 := by have := e.isLt; omega
  have hi : i.val < 2 ^ 31 := by have := i.isLt; omega
  simp only [ofNat_inj (expertOf_lt32 v _) he]
  have hs : ∀ x : Fin 1024, (IntOp.cmpi .sle (BitVec.ofNat 32 x.val) (BitVec.ofNat 32 i.val) = 1#1) = (x.val ≤ i.val) := fun x =>
    propext (sle_bit (by have := x.isLt; omega) hi)
  simp only [hs]
  rw [sum_ind (n := 1024) (fun j => j ≤ i.val) (fun j => expertOf v j = e.val), count_prefix _ i.isLt]
  by_cases h : expertOf v i.val = e.val
  · rw [if_pos h, if_pos h, mul_one]
    unfold place load
    rw [h]
  · rw [if_neg h, if_neg h, mul_zero]

/-- The place word of a token holds its place. -/
theorem rank_at (hv : ∀ i : Fin 1024, expertOf v i.val < 64) (i : Fin 1024) :
    k0_pay3 (k0_pay2 (F := Ideal) v) (ix2 i (0 : Fin 1)) = BitVec.ofNat 32 (place v i.val) := by
  pointwise [k0_pay3]
  simp only [pay2_at]
  rw [Finset.sum_eq_single (⟨expertOf v i.val, hv i⟩ : Fin 64)]
  · rw [if_pos rfl]
    exact count_word (lt_of_le_of_lt (place_le v i) (by decide))
  · intro e _ he
    rw [if_neg fun h => he (Fin.ext h.symm)]
  · exact fun h => absurd (Finset.mem_univ _) h

end Cert.Moe

end
-- ==== Proof.Rows.lean ====
/-
# The rows a device computes

Row `s` of device `c`'s selection is the token with expert `4 c + s / 12` and place `s % 12 + 1`, or zero where there is none.
Row `r` of its expert `e` is that selection's row `12 e + r` times the expert's weights.
-/
module

public import proofs.«01_k».proof.Proof.Rank

@[expose] public section

noncomputable section

namespace Cert.Moe

open Cert.KernelIdeal Cert.KernelIdeal.Gen
open Idealize.ShloMosaic

/-- A device computes its own number. -/
theorem myI_val (c : Dev nD) : myI c = BitVec.ofNat 32 c.val := by revert c; decide +kernel

/-- A row's expert word. -/
theorem pay4_at (c : Dev nD) (i : Fin 1024) (s : Fin 48) :
    k0_pay4 (myI c) (ix2 i s) = BitVec.ofNat 32 (4 * c.val + s.val / 12) := by
  rw [myI_val]
  pointwise [k0_pay4]
  have e : ∀ s : Fin 48, (Scalar.select
        (IntOp.andi
          (IntOp.cmpi CmpIPredicate.ne
            (IntOp.subi (BitVec.setWidth 32 (IntOp.cmpi CmpIPredicate.sgt (BitVec.ofNat 32 s.val) 0#32))
              (BitVec.setWidth 32 (IntOp.cmpi CmpIPredicate.slt (BitVec.ofNat 32 s.val) 0#32)))
            (Scalar.subi (Scalar.extui (Scalar.cmpi CmpIPredicate.sgt 12#32 0#32))
              (Scalar.extui (Scalar.cmpi CmpIPredicate.slt 12#32 0#32))))
          (IntOp.cmpi CmpIPredicate.ne (IntOp.remsi ArithUnit.vector (BitVec.ofNat 32 s.val) 12#32) 0#32))
        (IntOp.subi (IntOp.divsi ArithUnit.vector (BitVec.ofNat 32 s.val) 12#32) 1#32)
        (IntOp.divsi ArithUnit.vector (BitVec.ofNat 32 s.val) 12#32)) = BitVec.ofNat 32 (s.val / 12) := by decide +kernel
  rw [e s]
  show 4#32 * BitVec.ofNat 32 c.val + BitVec.ofNat 32 (s.val / 12) = _
  rw [show (4#32 : BitVec 32) = BitVec.ofNat 32 4 from rfl, ← BitVec.ofNat_mul, ← BitVec.ofNat_add]

/-- A row's place word. -/
theorem slot_place (i : Fin 1024) (s : Fin 48) :
    IntOp.addi (Scalar.select (k0_pay6 (ix2 i s)) (IntOp.addi (k0_pay5 (ix2 i s)) (k0_pay7 (ix2 i s))) (k0_pay5 (ix2 i s))) 1#32
      = BitVec.ofNat 32 (s.val % 12 + 1) := by
  pointwise [k0_pay6, k0_pay5, k0_pay7]
  revert s
  decide +kernel

variable (v : Vec Ideal S1024x1 .i32) (x : Vec Ideal S1024x256 .f32)

/-- The selection of device `c`. -/
def selected (c : Dev nD) : FVec Ideal S48x256 .f32 :=
  k0_pay8 (k0_pay1 (F := Ideal) v) (k0_pay3 (k0_pay2 (F := Ideal) v)) (k0_pay4 (myI c)) k0_pay5 k0_pay6 k0_pay7 x

/-- A row of the selection: the sum of the tokens, each counted if it has the row's expert and place. -/
theorem selected_sum (hv : ∀ i : Fin 1024, expertOf v i.val < 64) (c : Dev nD) (s : Fin 48) (k : Fin 256) :
    selected v x c (ix2 s k) = ∑ i : Fin 1024,
      (if expertOf v i.val = 4 * c.val + s.val / 12 ∧ place v i.val = s.val % 12 + 1 then (1 : EReal) else 0) * x (ix2 i k) := by
  unfold selected
  pointwise [k0_pay8]
  simp only [bit_val, and_bit, eq_bit, pay1_at, rank_at v hv, pay4_at, slot_place]
  refine Finset.sum_congr rfl fun i _ => ?_
  have h1 := ofNat_inj (expertOf_lt32 v i.val) (show 4 * c.val + s.val / 12 < 2 ^ 32 by have := s.isLt; have : c.val < 16 := c.isLt; omega)
  have h2 := ofNat_inj (show place v i.val < 2 ^ 32 from lt_of_le_of_lt (place_le v i) (by decide)) (show s.val % 12 + 1 < 2 ^ 32 by omega)
  simp only [h1, h2]

/-- The row of a token within capacity is the token. -/
theorem selected_at (hv : ∀ i : Fin 1024, expertOf v i.val < 64) (c : Dev nD) (s : Fin 48) (k : Fin 256) (i : Fin 1024)
    (he : expertOf v i.val = 4 * c.val + s.val / 12) (hp : place v i.val = s.val % 12 + 1) :
    selected v x c (ix2 s k) = x (ix2 i k) := by
  rw [selected_sum v x hv]
  refine sum_hot i _ (fun j => ⟨fun h => Fin.ext (place_inj v (h.1.trans he.symm) (h.2.trans hp.symm)), fun h => ?_⟩) _
  rw [h]
  exact ⟨he, hp⟩

end Cert.Moe

end
-- ==== Proof.Layer.lean ====
/-
# The layer

A token within its expert's capacity, 12, is multiplied by the expert's weights; a token past it gets a row of zeros.
-/
module

public import proofs.«01_k».proof.Proof.Places
public import Idealize.ShloMosaic.PureOps.Ideal

@[expose] public section

noncomputable section

namespace Cert.Moe

open Cert.KernelIdeal Cert.KernelIdeal.Gen
open Idealize.ShloMosaic

/-- All 64 experts' weights. -/
abbrev Weights : Shape := ⟨3, ![64, 256, 512]⟩

/-- Entry `f` of token `i` times the weights of its expert. -/
def tokenTimes (v : S1024x1.Idx → BitVec 32) (x : S1024x256.Idx → EReal) (W : Weights.Idx → EReal) (i : Fin 1024) (f : Fin 512) : EReal :=
  ∑ k : Fin 256, x (ix2 i k) * W (ix3 (⟨expertOf v i.val % 64, Nat.mod_lt _ (by decide)⟩ : Fin 64) k f)

/-- The layer's result. -/
def layer (v : S1024x1.Idx → BitVec 32) (x : S1024x256.Idx → EReal) (W : Weights.Idx → EReal) : S1024x512.Idx → EReal := fun j =>
  if place v (j 0).val ≤ 12 then tokenTimes v x W (j 0) (j 1) else 0

end Cert.Moe

end
-- ==== Proof.Comm.lean ====
/-
# The rows on the wire

Row `48 d + 12 e + r` of device `c`'s communication buffer is row `r` of expert `e` of device `c - d`. So the row that belongs to
a token within capacity is the token times the weights of its expert.
-/
module

public import proofs.«01_k».proof.Proof.Rows
public import proofs.«01_k».proof.Proof.Layer
public import Idealize.ShloMosaic.Lib.Layout
public import Idealize.ShloMosaic.Lib.Pipeline.ValueKit

@[expose] public section

noncomputable section

namespace Cert.Moe

open Cert.KernelIdeal Cert.KernelIdeal.Gen
open Idealize.ShloMosaic Idealize.ShloMosaic.TcCoe

variable (m : (ℓ : Loc nD τ sig) → Buf (Elt Ideal) ℓ) (ρ : Dev nD → PrngReg)

/-- The staged tokens are the whole argument. -/
theorem xstg_eq (c : Dev nD) : xstg m ρ c = m ((c : Thread nD τ).loc main_arg0) :=
  Memref.read_access_unit_zero (Elt Ideal) main_arg0 (funext fun a => by revert a; decide) _ _
/-- The staged route indices are the whole argument. -/
theorem istg_eq (c : Dev nD) : istg m ρ c = m ((c : Thread nD τ).loc main_arg2) :=
  Memref.read_access_unit_zero (Elt Ideal) main_arg2 (funext fun a => by revert a; decide) _ _
/-- The staged weights are the device's whole argument. -/
theorem wstg_eq (c : Dev nD) : wstg m ρ c = m ((c : Thread nD τ).loc main_arg3) :=
  Memref.read_access_unit_zero (Elt Ideal) main_arg3 (funext fun a => by revert a; decide) _ _

/-- Expert `e` of the staged weights. -/
theorem wld_at (c : Dev nD) (e : Fin 4) (k : Fin 256) (f : Fin 512) :
    wld m ρ c e (ix3 (0 : Fin 1) k f) = wstg m ρ c (ix3 e k f) := by
  show wstg m ρ c ((wR e).toLoadRect.idx (ix3 (0 : Fin 1) k f)) = _
  refine congrArg _ ?_
  pointwise

/-- Row `r` of a device's expert `e`. -/
theorem blk_at (c : Dev nD) (e : Fin 4) (r : Fin 12) (f : Fin 512) :
    blk m ρ c e (ix2 r f) = ∑ k : Fin 256,
      selected (istg m ρ c) (xstg m ρ c) c (ix2 (⟨12 * e.val + r.val, by have := e.isLt; have := r.isLt; omega⟩ : Fin 48) k)
        * wstg m ρ c (ix3 e k f) := by
  simp only [← wld_at]
  match e with
  | 0 =>
    unfold blk
    pointwise [k0_pay9]
    rfl
  | 1 =>
    unfold blk
    pointwise [k0_pay10]
    rfl
  | 2 =>
    unfold blk
    pointwise [k0_pay12, k0_pay11]
    rfl
  | 3 =>
    unfold blk
    pointwise [k0_pay13]
    rfl

/-- A row of the communication buffer, by its sender, the expert there and the row. -/
theorem commFull_at (c : Dev nD) (s : Fin 768) (f : Fin 512) (o : Dev nD) (e : Fin 4) (r : Fin 12)
    (hs : s.val = 48 * ((c.val + 16 - o.val) % 16) + 12 * e.val + r.val) :
    commFull m ρ c (ix2 s f) = blk m ρ o e (ix2 r f) := by
  have hc : c.val < 16 := c.isLt
  have ho : o.val < 16 := o.isLt
  have he := e.isLt
  have hr := r.isLt
  have e0 : c - (⟨s.val / 48, by have := s.isLt; omega⟩ : Fin 16) = o := by
    apply Fin.ext
    rw [Fin.sub_def]
    show (16 - s.val / 48 + c.val) % 16 = o.val
    omega
  have e1 : (⟨s.val % 48 / 12, by omega⟩ : Fin 4) = e := Fin.ext (by show s.val % 48 / 12 = e.val; omega)
  have e2 : (⟨s.val % 12, Nat.mod_lt _ (by decide)⟩ : Fin 12) = r := Fin.ext (by show s.val % 12 = r.val; omega)
  have h : commFull m ρ c (ix2 s f) = blk m ρ (c - (⟨s.val / 48, by have := s.isLt; omega⟩ : Fin 16)) ⟨s.val % 48 / 12, by omega⟩
      (ix2 (⟨s.val % 12, Nat.mod_lt _ (by decide)⟩ : Fin 12) f) :=
    congrArg (blk m ρ _ _) (funext fun a => match a with
      | 0 => rfl
      | 1 => rfl)
  rw [h, e0, e1, e2]

/-- The row a device looks a token up at. -/
def slotOf (v : S1024x1.Idx → BitVec 32) (c : Dev nD) (i : ℕ) : ℕ :=
  48 * ((c.val + 16 - expertOf v i / 4) % 16) + 12 * (expertOf v i % 4) + (place v i - 1)

/-- A token within capacity is looked up at a row of the buffer. -/
theorem slotOf_lt (v : S1024x1.Idx → BitVec 32) (c : Dev nD) (i : ℕ) (hp : place v i ≤ 12) : slotOf v c i < 768 := by
  unfold slotOf
  have := place_pos v i
  omega

/-- The row a token within capacity is looked up at is the token times the weights of its expert. -/
theorem commFull_token (v : S1024x1.Idx → BitVec 32) (x : S1024x256.Idx → EReal) (W : Weights.Idx → EReal)
    (hx : ∀ c : Dev nD, m ((c : Thread nD τ).loc main_arg0) = x) (hi : ∀ c : Dev nD, m ((c : Thread nD τ).loc main_arg2) = v)
    (hw : ∀ c : Dev nD, m ((c : Thread nD τ).loc main_arg3) = Layout.block S4x256x512 Weights 0 16 c W)
    (hv : ∀ i : Fin 1024, expertOf v i.val < 64) (c : Dev nD) (i : Fin 1024) (f : Fin 512) (hp : place v i.val ≤ 12) :
    commFull m ρ c (ix2 (⟨slotOf v c i.val, slotOf_lt v c i.val hp⟩ : Fin 768) f) = tokenTimes v x W i f := by
  have hq := hv i
  have h0 := place_pos v i.val
  obtain ⟨o, ho⟩ : ∃ o : Dev nD, o.val = expertOf v i.val / 4 := ⟨⟨expertOf v i.val / 4, by show _ < 16; omega⟩, rfl⟩
  obtain ⟨e, he⟩ : ∃ e : Fin 4, e.val = expertOf v i.val % 4 := ⟨⟨expertOf v i.val % 4, by omega⟩, rfl⟩
  obtain ⟨r, hr⟩ : ∃ r : Fin 12, r.val = place v i.val - 1 := ⟨⟨place v i.val - 1, by omega⟩, rfl⟩
  rw [commFull_at m ρ c _ f o e r (by rw [ho, he, hr]; rfl), blk_at, xstg_eq, istg_eq, wstg_eq, hx, hi, hw]
  unfold tokenTimes
  refine Finset.sum_congr (M := EReal) rfl fun k _ => ?_
  rw [selected_at v x hv o _ k i (by show _ = 4 * o.val + (12 * e.val + r.val) / 12; omega)
    (by show _ = (12 * e.val + r.val) % 12 + 1; omega), Layout.block_apply]
  refine congrArg (fun j => x (ix2 i k) * W j) (funext fun a => Fin.ext ?_)
  match a with
  | 0 =>
    show o.val * 4 + e.val = expertOf v i.val % 64
    omega
  | 1 => rfl
  | 2 => rfl

end Cert.Moe

end
-- ==== Proof.Output.lean ====
/-
# The result of a device

Every device multiplies its communication buffer by a one-hot matrix: a token within capacity takes the row it is looked up at,
a token past capacity takes none. So the result is the layer's.
-/
module

public import proofs.«01_k».proof.Proof.Comm
public import proofs.«01_k».proof.Proof.Body
public import Idealize.ShloMosaic.Lib.Routing.Words

@[expose] public section

noncomputable section

namespace Cert.Moe

open Cert.KernelIdeal Cert.KernelIdeal.Gen
open Idealize.ShloMosaic Idealize.ShloMosaic.TcCoe

/-- A quarter of an expert's number, rounded down. -/
theorem quarter (q : ℕ) (h : q < 64) :
    Scalar.select
      (IntOp.andi
        (IntOp.cmpi CmpIPredicate.ne
          (IntOp.subi (BitVec.setWidth 32 (IntOp.cmpi CmpIPredicate.sgt (BitVec.ofNat 32 q) 0#32))
            (BitVec.setWidth 32 (IntOp.cmpi CmpIPredicate.slt (BitVec.ofNat 32 q) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 q) 4#32) 0#32))
      (IntOp.subi (IntOp.divsi ArithUnit.vector (BitVec.ofNat 32 q) 4#32) 1#32)
      (IntOp.divsi ArithUnit.vector (BitVec.ofNat 32 q) 4#32) = BitVec.ofNat 32 (q / 4) := by
  have e : ∀ q : Fin 64, Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 q.val) 4#32) 0#32))
      (IntOp.subi (IntOp.divsi ArithUnit.vector (BitVec.ofNat 32 q.val) 4#32) 1#32)
      (IntOp.divsi ArithUnit.vector (BitVec.ofNat 32 q.val) 4#32) = BitVec.ofNat 32 (q.val / 4) := by decide +kernel
  exact e ⟨q, h⟩

/-- The word of the row of expert `q`'s place `p` on device `c`. -/
theorem row_word (c q p : ℕ) (hc : c < 16) (hq : q < 64) (hp : 0 < p) :
    IntOp.addi
      (IntOp.muli (IntOp.remsi ArithUnit.vector (IntOp.subi (Scalar.addi (BitVec.ofNat 32 c) 16#32) (BitVec.ofNat 32 (q / 4))) 16#32) 48#32)
      (IntOp.addi (IntOp.muli (IntOp.remsi ArithUnit.vector (BitVec.ofNat 32 q) 4#32) 12#32) (IntOp.subi (BitVec.ofNat 32 p) 1#32))
      = BitVec.ofNat 32 (48 * ((c + 16 - q / 4) % 16) + 12 * (q % 4) + (p - 1)) := by
  have e1 : IntOp.subi (Scalar.addi (BitVec.ofNat 32 c) 16#32) (BitVec.ofNat 32 (q / 4)) = BitVec.ofNat 32 (c + 16 - q / 4) := by
    show BitVec.ofNat 32 c + BitVec.ofNat 32 16 - BitVec.ofNat 32 (q / 4) = _
    rw [← BitVec.ofNat_add, Routing.ofNat32_sub (by omega)]
  have e2 : IntOp.subi (BitVec.ofNat 32 p) 1#32 = BitVec.ofNat 32 (p - 1) := Routing.ofNat32_sub hp
  rw [e1, e2, show (16#32 : BitVec 32) = BitVec.ofNat 32 16 from rfl, show (4#32 : BitVec 32) = BitVec.ofNat 32 4 from rfl,
    Routing.remsi_word .vector (by omega) (by decide) (by decide), Routing.remsi_word .vector (by omega) (by decide) (by decide)]
  show BitVec.ofNat 32 _ * BitVec.ofNat 32 48 + (BitVec.ofNat 32 _ * BitVec.ofNat 32 12 + BitVec.ofNat 32 _) = _
  rw [← BitVec.ofNat_mul, ← BitVec.ofNat_mul, ← BitVec.ofNat_add, ← BitVec.ofNat_add]
  congr 1
  omega

variable (m : (ℓ : Loc nD τ sig) → Buf (Elt Ideal) ℓ) (ρ : Dev nD → PrngReg)

/-- The one-hot matrix: a token within capacity has a one at the row it is looked up at, a token past capacity has none. -/
theorem scat_at (v : S1024x1.Idx → BitVec 32) (hi : ∀ c : Dev nD, m ((c : Thread nD τ).loc main_arg2) = v)
    (hv : ∀ i : Fin 1024, expertOf v i.val < 64) (c : Dev nD) (i : Fin 1024) (g : Fin 768) :
    (scat m ρ c (ix2 i g) : EReal) = if place v i.val ≤ 12 ∧ g.val = slotOf v c i.val then 1 else 0 := by
  have hg : g.val < 768 := g.isLt
  have hpl := place_le v i
  unfold scat idsW rankW
  rw [istg_eq, hi, myI_val]
  pointwise [k0_pay16, k0_pay14, k0_pay15]
  simp only [bit_val, eq_bit, pay1_at, rank_at v hv, quarter _ (hv i), row_word c.val _ _ c.isLt (hv i) (place_pos v i.val)]
  have h12 : IntOp.cmpi .sle (BitVec.ofNat 32 (place v i.val)) 12#32 = 1#1 ↔ place v i.val ≤ 12 :=
    sle_bit (b := 12) (by omega) (by decide)
  rw [select_bit h12]
  by_cases h : place v i.val ≤ 12
  · rw [if_pos h]
    have hs := slotOf_lt v c i.val h
    have e := ofNat_inj (a := slotOf v c i.val) (b := g.val) (by omega) (by omega)
    unfold slotOf at e ⊢
    simp only [e, h, true_and, eq_comm]
  · rw [if_neg h, if_neg (c := place v i.val ≤ 12 ∧ _) fun hh => h hh.1, if_neg]
    intro hh
    have := congrArg BitVec.toNat hh
    simp only [BitVec.toNat_ofNat] at this
    omega

/-- The result of a device is the layer's. -/
theorem outFull_eq (v : S1024x1.Idx → BitVec 32) (x : S1024x256.Idx → EReal) (W : Weights.Idx → EReal)
    (hx : ∀ c : Dev nD, m ((c : Thread nD τ).loc main_arg0) = x) (hi : ∀ c : Dev nD, m ((c : Thread nD τ).loc main_arg2) = v)
    (hw : ∀ c : Dev nD, m ((c : Thread nD τ).loc main_arg3) = Layout.block S4x256x512 Weights 0 16 c W)
    (hv : ∀ i : Fin 1024, expertOf v i.val < 64) (c : Dev nD) : outFull m ρ c = layer v x W := by
  funext j
  obtain ⟨i, f, rfl⟩ : ∃ (i : Fin 1024) (f : Fin 512), j = ix2 i f := ⟨j 0, j 1, eq_ix2 j⟩
  unfold outFull layer
  pointwise [k0_pay17]
  simp only [scat_at m ρ v hi hv]
  by_cases h : place v i.val ≤ 12
  · rw [if_pos h]
    refine (sum_hot (⟨slotOf v c i.val, slotOf_lt v c i.val h⟩ : Fin 768) _ (fun g => ?_) _).trans
      (commFull_token m ρ v x W hx hi hw hv c i f h)
    exact ⟨fun hh => Fin.ext hh.2, fun hh => ⟨h, congrArg Fin.val hh⟩⟩
  · rw [if_neg h]
    exact sum_cold _ (fun g hh => h hh.1) _

end Cert.Moe

end
-- ==== Proof.Reference.lean ====
/-
# The reference

The reference counts, for every expert, the tokens up to each token, picks the count of the token's own expert (its place),
multiplies every token by the weights of its expert, and zeroes the rows of the tokens past capacity: the layer.
-/
module

public import proofs.«01_k».proof.Proof.Layer
public import proofs.«01_k».proof.Proof.Reads
public import proofs.«01_k».proof.Proof.Gen.ReferenceIdeal.Run
public import Idealize.ShloMosaic.Lib.Routing.Ops
public import Idealize.ShloMosaic.Lib.Routing.OpsPair

@[expose] public section

noncomputable section

namespace Cert.Moe

open Cert.ReferenceIdeal Cert.ReferenceIdeal.Gen
open Idealize.ShloMosaic

/-! ## The reference's arrays -/

/-- The one-hot rows of the routing, as words. -/
def hotR (v : IVec S1024x1 32) : IVec S1024x64 32 :=
  extui 32 (cmpi .eq
    (broadcastInDim S1024x64 ![0, 1] bcast_S1024x1_S1024x64_0_1
      (broadcastInDim S1024x1 ![0] bcast_S1024_S1024x1_0 (shapeCast S1024 v shapeCasts_S1024x1_S1024)))
    (broadcastInDim S1024x64 ![0, 1] bcast_S1x64_S1024x64_0_1 (broadcastInDim S1x64 ![1] bcast_S64_S1x64_1 (iotaInDim S64 32 0))))
    natLt_1_32

/-- Their running sums down the tokens. -/
def cumR (v : IVec S1024x1 32) : IVec S1024x64 32 :=
  Host.reduceWindow IntOp.addi ![1024, 1] ![1, 1] ![1023, 0] ![0, 0] (hotR v) (broadcastInDim S_ ![] bcast_S_S_ (constantI S_ 32 0#32))
    reduceWindows_S1024x64_S1024x64_w1024s1p1023_0_w1s1p0_0 h_S_

/-- The places. -/
def placeR (v : IVec S1024x1 32) : IVec S1024 32 :=
  Host.reduce IntOp.addi (muli (cumR v) (hotR v)) (constantI S_ 32 0#32) reducesTo_S1024x64_S1024_d1 h_S_

/-- The index column of the weights. -/
def idxR (v : IVec S1024x1 32) : IVec S1024x1 32 :=
  broadcastInDim S1024x1 ![0] bcast_S1024_S1024x1_0
    (select (cmpi .slt (shapeCast S1024 v shapeCasts_S1024x1_S1024) (broadcastInDim S1024 ![] bcast_S_S1024 (constantI S_ 32 0#32)))
      (addi (shapeCast S1024 v shapeCasts_S1024x1_S1024) (broadcastInDim S1024 ![] bcast_S_S1024 (constantI S_ 32 64#32)))
      (shapeCast S1024 v shapeCasts_S1024x1_S1024))

/-- The weights of every token's expert. -/
def gatherR (v : IVec S1024x1 32) (W : FVec Ideal S64x256x512 .f32) : FVec Ideal S1024x256x512 .f32 :=
  Host.gather gather_S64x256x512_S1024x1_S1024x256x512_12_0_n_n_0_1_1256512 W (idxR v)

/-- The result. -/
def resultR (v : IVec S1024x1 32) (x : FVec Ideal S1024x256 .f32) (W : FVec Ideal S64x256x512 .f32) : FVec Ideal S1024x512 .f32 :=
  select
    (broadcastInDim S1024x512 ![0, 1] bcast_S1024x1_S1024x512_0_1
      (broadcastInDim S1024x1 ![0] bcast_S1024_S1024x1_0
        (cmpi .sle (placeR v) (broadcastInDim S1024 ![] bcast_S_S1024 (constantI S_ 32 12#32)))))
    (Host.dotGeneral dot_S1024x256_S1024x256x512_S1024x512_1_1_n_2_0_0 none x (gatherR v W))
    (broadcastInDim S1024x512 ![] bcast_S_S1024x512 (id (constant S_ .f32 0x00000000#32)))

/-! ## What they hold -/

variable (v : IVec S1024x1 32)

/-- The one-hot entry of a token and an expert: 1 if the token is the expert's, else 0. -/
theorem hotR_at (i : Fin 1024) (e : Fin 64) :
    hotR v (ix2 i e) = BitVec.ofNat 32 (if expertOf v i.val = e.val then 1 else 0) := by
  pointwise [hotR]
  have h : IntOp.cmpi .eq (v (ix2 i (0 : Fin 1))) (BitVec.ofNat 32 e.val) = BitVec.ofBool (decide (expertOf v i.val = e.val)) := by
    have he : e.val < 2 ^ 32 := by have := e.isLt; omega
    have hx : expertOf v i.val < 2 ^ 32 := by rw [expertOf, dif_pos i.isLt]; exact (v _).isLt
    rw [word_eq v i]
    by_cases h : expertOf v i.val = e.val
    · rw [(eq_bit _ _).2 ((ofNat_inj hx he).2 h)]; simp [h]
    · rw [show BitVec.ofBool (decide (expertOf v i.val = e.val)) = 0#1 by simp [h]]
      exact (by decide : ∀ b : BitVec 1, b ≠ 1#1 → b = 0#1) _ fun hh => h ((ofNat_inj hx he).1 ((eq_bit _ _).1 hh))
  rw [h]
  by_cases hh : expertOf v i.val = e.val <;> simp [hh]

/-- A running sum down the tokens is the expert's load. -/
theorem cumR_at (i : Fin 1024) (e : Fin 64) : cumR v (ix2 i e) = BitVec.ofNat 32 (load v e.val (i.val + 1)) := by
  have hi := i.isLt
  unfold cumR Host.reduceWindow
  refine (Routing.foldl_addi_ofNat _ _ (fun n => if 1023 ≤ i.val + n.val then (if expertOf v (i.val + n.val - 1023) = e.val then 1 else 0) else 0)
    (fun n _ => ?_) _ 0 rfl).trans ?_
  · have hn : n.val < 1024 := n.isLt
    have hw := Routing.symm22 (A := 1024) (B := 1) n (by omega) (by omega)
    have hw0 : ((Routing.shape2 1024 1).rowMajor.symm n 0).val = n.val := by rw [hw]; exact Nat.div_one _
    have hw1 : ((Routing.shape2 1024 1).rowMajor.symm n 1).val = 0 := by rw [hw]; exact Nat.mod_one _
    dsimp only
    split
    · next hin =>
      have h0 := hin 0
      change 1023 ≤ i.val * 1 + ((Routing.shape2 1024 1).rowMajor.symm n 0).val
        ∧ i.val * 1 + ((Routing.shape2 1024 1).rowMajor.symm n 0).val - 1023 < 1024 at h0
      rw [hw0] at h0
      rw [if_pos (by omega)]
      refine (congrArg (hotR v) (funext fun a => Fin.ext ?_)).trans (hotR_at v ⟨i.val + n.val - 1023, by omega⟩ e)
      match a with
      | ⟨0, _⟩ =>
        show i.val * 1 + ((Routing.shape2 1024 1).rowMajor.symm n 0).val - 1023 = i.val + n.val - 1023
        rw [hw0, Nat.mul_one]
      | ⟨1, _⟩ =>
        show e.val * 1 + ((Routing.shape2 1024 1).rowMajor.symm n 1).val - 0 = e.val
        rw [hw1, Nat.mul_one]; rfl
    · next hin =>
      rw [if_neg fun hle => hin fun a => by
        match a with
        | ⟨0, _⟩ =>
          show 1023 ≤ i.val * 1 + ((Routing.shape2 1024 1).rowMajor.symm n 0).val
            ∧ i.val * 1 + ((Routing.shape2 1024 1).rowMajor.symm n 0).val - 1023 < 1024
          rw [hw0]
          omega
        | ⟨1, _⟩ =>
          show 0 ≤ e.val * 1 + ((Routing.shape2 1024 1).rowMajor.symm n 1).val
            ∧ e.val * 1 + ((Routing.shape2 1024 1).rowMajor.symm n 1).val - 0 < 64
          rw [hw1]
          have := e.isLt
          omega]
      rfl
  · rw [Nat.zero_add, Routing.map_finRange_val _ (fun n => if 1023 ≤ i.val + n then (if expertOf v (i.val + n - 1023) = e.val then 1 else 0) else 0)]
    refine congrArg (BitVec.ofNat 32) ((Routing.sum_window (fun j => if expertOf v j = e.val then 1 else 0) 1023 i.val (by omega)).trans ?_)
    exact Routing.sum_map_ite _ _

/-- A fold of words that are all zero but one. -/
theorem fold_hot {n : ℕ} (e : Fin n) (g : Fin n → BitVec 32) (p : BitVec 32) (he : g e = p) (h0 : ∀ x, x ≠ e → g x = 0) :
    Finset.fold IntOp.addi 0#32 g Finset.univ = p := by
  refine Eq.trans (b := ∑ x : Fin n, g x) ?_ ?_
  · exact (Finset.sum_eq_fold _ _).symm
  · rw [Finset.sum_eq_single e (fun x _ hx => h0 x hx) (fun h => absurd (Finset.mem_univ e) h), he]

/-- The reference's count for a token is its place. -/
theorem placeR_at (hv : ∀ i : Fin 1024, expertOf v i.val < 64) (i : Fin 1024) : placeR v (ix1 i) = BitVec.ofNat 32 (place v i.val) := by
  pointwise [placeR]
  refine fold_hot (⟨expertOf v i.val, hv i⟩ : Fin 64) _ _ ?_ fun x hx => ?_
  · rw [cumR_at, hotR_at, if_pos rfl]
    show _ * 1#32 = _
    rw [BitVec.mul_one]; rfl
  · rw [hotR_at, if_neg fun h => hx (Fin.ext h.symm)]
    exact BitVec.mul_zero

/-- An index in range is used as it is. -/
theorem idxR_at (hv : ∀ i : Fin 1024, expertOf v i.val < 64) (i : Fin 1024) : idxR v (ix2 i (0 : Fin 1)) = BitVec.ofNat 32 (expertOf v i.val) := by
  pointwise [idxR]
  have h := hv i
  rw [word_eq v i]
  refine Routing.wrap_of_lt _ _ ?_
  rw [BitVec.toNat_ofNat, Nat.mod_eq_of_lt (by omega)]
  omega

/-- The shape record of the reference's gather: whole slices of the weights, by the first axis. -/
abbrev takeW : GatherDims S64x256x512 S1024x1 S1024x256x512 := gather_S64x256x512_S1024x1_S1024x256x512_12_0_n_n_0_1_1256512

/-- Only the weights' first axis is indexed. -/
theorem indexed (a : Fin 3) : a ∈ takeW.startIndexMap ↔ a = 0 := List.mem_singleton

/-- The weights' other two axes are taken whole. -/
theorem whole (a : Fin 3) : a ∈ takeW.sKept ↔ a ≠ 0 := by
  rw [GatherDims.mem_sKept]
  exact ⟨fun h e => h.1 (List.mem_singleton.2 e), fun h => ⟨fun e => h (List.mem_singleton.1 e), List.not_mem_nil⟩⟩

/-- The index a result element reads is its token's. -/
theorem startIdx_at (i : Fin 1024) (k : Fin 256) (f : Fin 512) (c : Fin takeW.startIndexMap.length) :
    takeW.siIdx (ix3 i k f) c = ix2 i (0 : Fin 1) := by
  have hc : c.val < 1 := c.isLt
  refine funext fun b => Fin.ext ?_
  match b with
  | ⟨0, _⟩ => rfl
  | ⟨1, _⟩ => show c.val = 0; omega

/-- The gathered weights of a token are its expert's. -/
theorem gatherR_at (hv : ∀ i : Fin 1024, expertOf v i.val < 64) (W : FVec Ideal S64x256x512 .f32) (i : Fin 1024) (k : Fin 256) (f : Fin 512) :
    gatherR v W (ix3 i k f) = W (ix3 (⟨expertOf v i.val % 64, Nat.mod_lt _ (by decide)⟩ : Fin 64) k f) := by
  unfold gatherR Host.gather
  refine congrArg W (funext fun a => Fin.ext ?_)
  have h := hv i
  show takeW.start (ix3 i k f) (idxR v) a + takeW.batchCoord (ix3 i k f) a + takeW.offCoord (ix3 i k f) a = _
  rw [takeW.batchCoord_eq_zero _ a List.not_mem_nil]
  have split : ∀ b : Fin 3, b = 0 ∨ b = 1 ∨ b = 2 := by decide
  rcases split a with rfl | rfl | rfl
  · rw [takeW.offCoord_eq_zero _ _ fun hk => (whole _).1 hk rfl]
    unfold GatherDims.start
    rw [dif_pos ((indexed _).2 rfl), startIdx_at, idxR_at v hv, StableHlo.Predicate.toInt_ofNat_small _ (by omega)]
    show min ((expertOf v i.val : ℕ) : ℤ).toNat 63 = expertOf v i.val % 64
    omega
  · unfold GatherDims.start GatherDims.offCoord
    rw [dif_neg (mt (indexed _).1 (by decide)), dif_pos ((whole _).2 (by decide))]
    show 0 + 0 + k.val = k.val
    omega
  · unfold GatherDims.start GatherDims.offCoord
    rw [dif_neg (mt (indexed _).1 (by decide)), dif_pos ((whole _).2 (by decide))]
    show 0 + 0 + f.val = f.val
    omega

/-- The reference computes the layer. -/
theorem resultR_eq (hv : ∀ i : Fin 1024, expertOf v i.val < 64) (x : FVec Ideal S1024x256 .f32) (W : FVec Ideal S64x256x512 .f32) :
    resultR v x W = layer v x W := by
  funext j
  obtain ⟨i, f, rfl⟩ : ∃ (i : Fin 1024) (f : Fin 512), j = ix2 i f := ⟨j 0, j 1, eq_ix2 j⟩
  unfold layer tokenTimes
  pointwise [resultR]
  have hpl := place_le v i
  simp only [placeR_at v hv, gatherR_at v hv]
  rw [select_bit (sle_bit (a := place v i.val) (b := 12) (by omega) (by decide))]
  by_cases h : place v i.val ≤ 12
  · rw [if_pos h]; exact (if_pos h).symm
  · rw [if_neg h]; refine Eq.trans ?_ (if_neg h).symm
    exact Ideal.ofBits_zero_f32

end Cert.Moe

end
-- ==== Proof.Equation.lean ====
/-
# The equation

On every device the kernel's result ends holding the layer of its whole arguments, and so does the reference's.
-/
module

public import proofs.«01_k».proof.Proof.Frames
public import proofs.«01_k».proof.Proof.Output
public import proofs.«01_k».proof.Proof.Reference
public import proofs.«01_k».proof.Proof.Gen.Pre_valid_route_KernelIdeal
public import proofs.«01_k».proof.Proof.Gen.Pre_valid_route_ReferenceIdeal
public import Idealize.ShloMosaic.Lib.Pipeline.ValueKit

@[expose] public section

noncomputable section

namespace Cert.Moe

open Idealize.ShloMosaic Idealize.ShloMosaic.TcCoe Idealize.SL.Sem
open Cert.KernelIdeal Cert.KernelIdeal.Gen

/-! ## The frames under the precondition -/

/-- The kernel over the reals, its tokens routed to the experts. -/
theorem frame_ideal_pre : Cert.quiescent_KernelIdeal_pre_valid_route_KernelIdeal := fun m ρ _ => frame_any m ρ

/-- The reference over the reals, its tokens routed to the experts. -/
theorem frame_reference_pre : Cert.quiescent_ReferenceIdeal_pre_valid_route_ReferenceIdeal := fun m ρ _ =>
  frame_reference m ρ trivial

/-! ## The value -/

/-- A word that is at least zero and less than 64, read signed, is less than 64 read unsigned. -/
theorem in_range (w : BitVec 32) (h : IntOp.andi (IntOp.cmpi .sge w 0#32) (IntOp.cmpi .slt w 64#32) = 1#1) : w.toNat < 64 := by
  obtain ⟨h0, h1⟩ := (and_bit _ _).1 h
  have of_bit : ∀ b : Bool, BitVec.ofBool b = 1#1 → b = true := by decide
  have g0 : (0#32).sle w = true := of_bit _ h0
  have g1 : w.slt 64#32 = true := of_bit _ h1
  rw [BitVec.sle_iff_toInt_le] at g0
  rw [BitVec.slt_iff_toInt_lt] at g1
  have e0 : (0#32).toInt = 0 := by decide
  have e1 : (64#32).toInt = 64 := by decide
  have ew := BitVec.toInt_eq_toNat_cond w
  rw [e0] at g0
  rw [e1] at g1
  have hw := w.isLt
  split at ew <;> omega

/-- What the precondition says: every token is routed to one of the experts. -/
theorem routed (m : (ℓ : Loc nD τ sig) → Buf (Elt Ideal) ℓ) (h : Cert.Pre_KernelIdeal_valid_route_KernelIdeal m) (c : Dev nD)
    (i : Fin 1024) : expertOf (m ((c : Thread nD τ).loc main_arg2)) i.val < 64 := by
  have hi := congrFun (h c) (ix2 i (0 : Fin 1))
  rw [expertOf, dif_pos i.isLt]
  exact in_range _ hi

/-- The result's array ends holding what the body leaves. -/
theorem finalA_out {F : FTy → Type} [FloatOps F] (m : (ℓ : Loc nD τ sig) → Buf (Elt F) ℓ) (ρ : Dev nD → PrngReg) (c : Dev nD) :
    finalA m ρ c (3 : Fin 4) = outFull m ρ c :=
  (dats m ρ 0 c).arrAt_eq_of_after_last (3 : Fin 4) t0_0 (by decide +kernel) _ (fun j => rfl)

/-- The kernel ends with the layer on every device, its arguments unchanged. -/
theorem kernel_value (m : (ℓ : Loc nD τ sig) → Buf (Elt Ideal) ℓ) (ρ : Dev nD → PrngReg)
    (v : S1024x1.Idx → BitVec 32) (x : S1024x256.Idx → EReal) (W : Weights.Idx → EReal)
    (hx : ∀ c : Dev nD, m ((c : Thread nD τ).loc main_arg0) = x) (hi : ∀ c : Dev nD, m ((c : Thread nD τ).loc main_arg2) = v)
    (hw : ∀ c : Dev nD, m ((c : Thread nD τ).loc main_arg3) = Layout.block S4x256x512 Weights 0 16 c W)
    (hv : ∀ i : Fin 1024, expertOf v i.val < 64) :
    θ_run defs (onTc (τ := τ) (main (F := Ideal))) (s₀ m ρ) (fun r => ∀ c : Dev nD,
      r.2.mem ((c : Thread nD τ).loc main_v1) = layer v x W
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) :=
  (θ_run defs _ _).mono (fun _ h c =>
    ⟨((h.1 c).1 (3 : Fin 4)).trans ((finalA_out m ρ c).trans (outFull_eq m ρ v x W hx hi hw hv c)), args_of m ρ h.1 c⟩) (run_main m ρ)

/-- The kernel and the reference compute one array. -/
theorem algebraic : Cert.algebraic_KernelIdeal_ReferenceIdeal_pre_valid_route_KernelIdeal := by
  intro m g m' g' hpre hargs
  have hi := fun c => (hargs c).2.2.1
  have hv : ∀ i : Fin 1024, expertOf (m' (((0 : Dev Cert.ReferenceIdeal.nD).tc : Thread Cert.ReferenceIdeal.nD Cert.ReferenceIdeal.τ).loc
      Cert.ReferenceIdeal.main_arg2)) i.val < 64 := fun i => hi 0 ▸ routed m hpre 0 i
  refine ⟨layer (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg3)),
    kernel_value m g _ _ _ (fun c => (hargs c).1) hi (fun c => (hargs c).2.2.2) hv, ?_⟩
  refine (θ_run Cert.ReferenceIdeal.defs _ _).mono (fun _ h => ⟨(h 0).1.trans ?_, (h 0).2⟩) (Cert.ReferenceIdeal.Value.run m' g')
  exact resultR_eq _ hv _ _

end Cert.Moe

end
-- ==== Proof.lean ====
/-
# The certificate

The kernel's frames, its frames under the precondition, the reference's, and the equation of the two results, put together.
-/
module

public import proofs.«01_k».proof.Defs
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts, Cert.Pre_valid_route_KernelIdeal.Gen.facts, Cert.Pre_valid_route_ReferenceIdeal.Gen.facts,
  Cert.Moe.frame_kernel, Cert.Moe.frame_ideal, Cert.Moe.frame_ideal_pre, Cert.Moe.frame_reference, Cert.Moe.frame_reference_pre,
  trivial, Cert.Moe.algebraic⟩

end Cert.Proof

end
